-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_order_and_variance_nonzero [hPre_rows_in_order_and_variance_nonzero : Cert.Pre_rows_in_order_and_variance_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_order_and_variance_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_order_and_variance_nonzero [hPre_rows_in_order_and_variance_nonzero : Cert.Pre_rows_in_order_and_variance_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_order_and_variance_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_in_order_and_variance_nonzero [hKernelIdeal : Cert.KernelIdeal.Facts] [hPre_rows_in_order_and_variance_nonzero : Cert.Pre_rows_in_order_and_variance_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_order_and_variance_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_in_order_and_variance_nonzero [hReferenceIdeal : Cert.ReferenceIdeal.Facts] [hPre_rows_in_order_and_variance_nonzero : Cert.Pre_rows_in_order_and_variance_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_order_and_variance_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_rows_in_order_and_variance_nonzero [hKernelIdeal : Cert.KernelIdeal.Facts] [hReferenceIdeal : Cert.ReferenceIdeal.Facts] [hPre_rows_in_order_and_variance_nonzero : Cert.Pre_rows_in_order_and_variance_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_order_and_variance_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_rows_in_order_and_variance_nonzero : Cert.Pre_rows_in_order_and_variance_nonzero.Facts),
    quiescent_Kernel (hKernel := hKernel)
    ∧ quiescent_KernelIdeal (hKernelIdeal := hKernelIdeal)
    ∧ quiescent_KernelIdeal_pre_rows_in_order_and_variance_nonzero (hKernelIdeal := hKernelIdeal) (hPre_rows_in_order_and_variance_nonzero := hPre_rows_in_order_and_variance_nonzero)
    ∧ quiescent_ReferenceIdeal (hReferenceIdeal := hReferenceIdeal)
    ∧ quiescent_ReferenceIdeal_pre_rows_in_order_and_variance_nonzero (hReferenceIdeal := hReferenceIdeal) (hPre_rows_in_order_and_variance_nonzero := hPre_rows_in_order_and_variance_nonzero)
    ∧ preserves_Kernel_KernelIdeal
    ∧ algebraic_KernelIdeal_ReferenceIdeal_pre_rows_in_order_and_variance_nonzero (hKernelIdeal := hKernelIdeal) (hReferenceIdeal := hReferenceIdeal) (hPre_rows_in_order_and_variance_nonzero := hPre_rows_in_order_and_variance_nonzero)
-- ==== Pre_rows_in_order_and_variance_nonzero.lean ====
abbrev S1000000x64 : Shape := ⟨2, ![1000000, 64]⟩
abbrev S16384x64 : Shape := ⟨2, ![16384, 64]⟩
abbrev S16384x32 : Shape := ⟨2, ![16384, 32]⟩
abbrev S16384 : Shape := ⟨1, ![16384]⟩
abbrev S32x4x10 : Shape := ⟨3, ![32, 4, 10]⟩
abbrev S32x10 : Shape := ⟨2, ![32, 10]⟩
abbrev S192x320 : Shape := ⟨2, ![192, 320]⟩
abbrev S192x64 : Shape := ⟨2, ![192, 64]⟩
abbrev S192 : Shape := ⟨1, ![192]⟩
abbrev S16384x1 : Shape := ⟨2, ![16384, 1]⟩
abbrev S_ : Shape := ⟨0, ![]⟩

class Facts : Prop where
  bcast_S16384_S16384x1_0 : S16384.BroadcastsInDim S16384x1 (![0] : Fin 1 → Fin S16384x1.rank)
  slices_S16384x64_S16384x32_0_32 : S16384x64.Slices ![0, 32] S16384x32
  bcast_S_S16384x32 : S_.BroadcastsInDim S16384x32 (![] : Fin 0 → Fin S16384x32.rank)
  bcast_S16384x1_S16384x32_0_1 : S16384x1.BroadcastsInDim S16384x32 (![0, 1] : Fin 2 → Fin S16384x32.rank)

variable [Facts]

def fn {F : FTy → Type} [FloatOps F] (main_arg0 : FVec F S1000000x64 .f32) (main_arg1 : FVec F S16384x64 .f32) (main_arg2 : FVec F S16384x32 .f32) (main_arg3 : FVec F S16384x32 .f32) (main_arg4 : IVec S16384 32) (main_arg5 : FVec F S32x4x10 .f32) (main_arg6 : FVec F S32x10 .f32) (main_arg7 : FVec F S192x320 .f32) (main_arg8 : FVec F S192x64 .f32) (main_arg9 : FVec F S192 .f32) (main_arg10 : FVec F S192 .f32) : IVec S16384x32 1 :=
  let main_v0 : IVec S16384 32 := iotaInDim S16384 32 0
  let main_v1 : IVec S16384 1 := cmpi .eq main_arg4 main_v0
  let main_v2 : IVec S16384x1 1 := broadcastInDim S16384x1 ![0] bcast_S16384_S16384x1_0 main_v1
  let main_v3 : FVec F S16384x32 .f32 := (extractStridedSlice S16384x32 ![0, 32] · slices_S16384x64_S16384x32_0_32) main_arg1
  let main_cst : FVec F S_ .f32 := constant S_ .f32 0xFF800000#32
  let main_v4 : FVec F S16384x32 .f32 := broadcastInDim S16384x32 ![] bcast_S_S16384x32 main_cst
  let main_v5 : IVec S16384x32 1 := cmpf .ogt main_v3 main_v4
  let main_v6 : IVec S16384x32 1 := broadcastInDim S16384x32 ![0, 1] bcast_S16384x1_S16384x32_0_1 main_v2
  let main_v7 : IVec S16384x32 1 := andi main_v6 main_v5
  main_v7
-- ==== Kernel.lean ====
abbrev S1000000x64 : Shape := ⟨2, ![1000000, 64]⟩
abbrev S16384x64 : Shape := ⟨2, ![16384, 64]⟩
abbrev S16384x32 : Shape := ⟨2, ![16384, 32]⟩
abbrev S16384 : Shape := ⟨1, ![16384]⟩
abbrev S32x4x10 : Shape := ⟨3, ![32, 4, 10]⟩
abbrev S32x10 : Shape := ⟨2, ![32, 10]⟩
abbrev S192x320 : Shape := ⟨2, ![192, 320]⟩
abbrev S192x64 : Shape := ⟨2, ![192, 64]⟩
abbrev S192 : Shape := ⟨1, ![192]⟩
abbrev S32x32 : Shape := ⟨2, ![32, 32]⟩
abbrev S_ : Shape := ⟨0, ![]⟩
abbrev S4x32x10 : Shape := ⟨3, ![4, 32, 10]⟩
abbrev S4x32x1x10 : Shape := ⟨4, ![4, 32, 1, 10]⟩
abbrev S1x32x32x1 : Shape := ⟨4, ![1, 32, 32, 1]⟩
abbrev S4x32x32x10 : Shape := ⟨4, ![4, 32, 32, 10]⟩
abbrev S128x320 : Shape := ⟨2, ![128, 320]⟩
abbrev S1x320 : Shape := ⟨2, ![1, 320]⟩
abbrev S32x32x10 : Shape := ⟨3, ![32, 32, 10]⟩
abbrev S32x320 : Shape := ⟨2, ![32, 320]⟩
abbrev S320x192 : Shape := ⟨2, ![320, 192]⟩
abbrev S64x192 : Shape := ⟨2, ![64, 192]⟩
abbrev S1x192 : Shape := ⟨2, ![1, 192]⟩
abbrev S2048x64 : Shape := ⟨2, ![2048, 64]⟩
abbrev S2048x32 : Shape := ⟨2, ![2048, 32]⟩
abbrev S2048x128 : Shape := ⟨2, ![2048, 128]⟩
abbrev S2048x320 : Shape := ⟨2, ![2048, 320]⟩
abbrev S2048x192 : Shape := ⟨2, ![2048, 192]⟩

abbrev nBuf : Space → Nat
  | .hbm => 34
  | .vmem => 19
  | .smem => 0
  | _ => 0

abbrev bufTy : (tb : Table) → Fin (tcTables nBuf tb) → BufTy
  | .hbm, ⟨0, _⟩ => ⟨S1000000x64, .f32⟩
  | .hbm, ⟨1, _⟩ => ⟨S16384x64, .f32⟩
  | .hbm, ⟨2, _⟩ => ⟨S16384x32, .f32⟩
  | .hbm, ⟨3, _⟩ => ⟨S16384x32, .f32⟩
  | .hbm, ⟨4, _⟩ => ⟨S16384, .i32⟩
  | .hbm, ⟨5, _⟩ => ⟨S32x4x10, .f32⟩
  | .hbm, ⟨6, _⟩ => ⟨S32x10, .f32⟩
  | .hbm, ⟨7, _⟩ => ⟨S192x320, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i1⟩
  | .hbm, ⟨17, _⟩ => ⟨S32x32, .f32⟩
  | .hbm, ⟨18, _⟩ => ⟨S4x32x10, .f32⟩
  | .hbm, ⟨19, _⟩ => ⟨S4x32x1x10, .f32⟩
  | .hbm, ⟨20, _⟩ => ⟨S1x32x32x1, .f32⟩
  | .hbm, ⟨21, _⟩ => ⟨S4x32x32x10, .f32⟩
  | .hbm, ⟨22, _⟩ => ⟨S4x32x32x10, .f32⟩
  | .hbm, ⟨23, _⟩ => ⟨S4x32x32x10, .f32⟩
  | .hbm, ⟨24, _⟩ => ⟨S128x320, .f32⟩
  | .hbm, ⟨25, _⟩ => ⟨S1x320, .f32⟩
  | .hbm, ⟨26, _⟩ => ⟨S32x32x10, .f32⟩
  | .hbm, ⟨27, _⟩ => ⟨S32x320, .f32⟩
  | .hbm, ⟨28, _⟩ => ⟨S320x192, .f32⟩
  | .hbm, ⟨29, _⟩ => ⟨S64x192, .f32⟩
  | .hbm, ⟨30, _⟩ => ⟨S1x192, .f32⟩
  | .hbm, ⟨31, _⟩ => ⟨S1x192, .f32⟩
  | .hbm, ⟨32, _⟩ => ⟨S1000000x64, .f32⟩
  | .hbm, ⟨33, _⟩ => ⟨S16384x32, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S128x320, .f32⟩
  | .local _ .vmem, ⟨9, _⟩ => ⟨S1x320, .f32⟩
  | .local _ .vmem, ⟨10, _⟩ => ⟨S32x320, .f32⟩
  | .local _ .vmem, ⟨11, _⟩ => ⟨S320x192, .f32⟩
  | .local _ .vmem, ⟨12, _⟩ => ⟨S64x192, .f32⟩
  | .local _ .vmem, ⟨13, _⟩ => ⟨S1x192, .f32⟩
  | .local _ .vmem, ⟨14, _⟩ => ⟨S1x192, .f32⟩
  | .local _ .vmem, ⟨15, _⟩ => ⟨S2048x64, .f32⟩
  | .local _ .vmem, ⟨16, _⟩ => ⟨S2048x64, .f32⟩
  | .local _ .vmem, ⟨17, _⟩ => ⟨S2048x32, .f32⟩
  | .local _ .vmem, ⟨18, _⟩ => ⟨S2048x32, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![489], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S320x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1000000x64 : Shape := ⟨2, ![1000000, 64]⟩
abbrev S16384x64 : Shape := ⟨2, ![16384, 64]⟩
abbrev S16384x32 : Shape := ⟨2, ![16384, 32]⟩
abbrev S16384 : Shape := ⟨1, ![16384]⟩
abbrev S32x4x10 : Shape := ⟨3, ![32, 4, 10]⟩
abbrev S32x10 : Shape := ⟨2, ![32, 10]⟩
abbrev S192x320 : Shape := ⟨2, ![192, 320]⟩
abbrev S192x64 : Shape := ⟨2, ![192, 64]⟩
abbrev S192 : Shape := ⟨1, ![192]⟩
abbrev S_ : Shape := ⟨0, ![]⟩
abbrev S16384x32x1 : Shape := ⟨3, ![16384, 32, 1]⟩
abbrev S16384x32x4 : Shape := ⟨3, ![16384, 32, 4]⟩
abbrev S32x10x16384 : Shape := ⟨3, ![32, 10, 16384]⟩
abbrev S16384x32x10 : Shape := ⟨3, ![16384, 32, 10]⟩
abbrev S1x32x10 : Shape := ⟨3, ![1, 32, 10]⟩
abbrev S10x16384x32 : Shape := ⟨3, ![10, 16384, 32]⟩
abbrev S1x16384x32 : Shape := ⟨3, ![1, 16384, 32]⟩
abbrev S16384x320 : Shape := ⟨2, ![16384, 320]⟩
abbrev S16384x1 : Shape := ⟨2, ![16384, 1]⟩
abbrev S1 : Shape := ⟨1, ![1]⟩
abbrev S1x1 : Shape := ⟨2, ![1, 1]⟩
abbrev S320x192 : Shape := ⟨2, ![320, 192]⟩
abbrev S16384x192 : Shape := ⟨2, ![16384, 192]⟩
abbrev S1x192 : Shape := ⟨2, ![1, 192]⟩
abbrev S64x192 : Shape := ⟨2, ![64, 192]⟩

abbrev nBuf : Space → Nat
  | .hbm => 122
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384x64, .f32⟩
  | .hbm, ⟨2, _⟩ => ⟨S16384x32, .f32⟩
  | .hbm, ⟨3, _⟩ => ⟨S16384x32, .f32⟩
  | .hbm, ⟨4, _⟩ => ⟨S16384, .i32⟩
  | .hbm, ⟨5, _⟩ => ⟨S32x4x10, .f32⟩
  | .hbm, ⟨6, _⟩ => ⟨S32x10, .f32⟩
  | .hbm, ⟨7, _⟩ => ⟨S192x320, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S16384x32, .f32⟩
  | .hbm, ⟨12, _⟩ => ⟨S16384x32, .f32⟩
  | .hbm, ⟨13, _⟩ => ⟨S_, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S16384x32x1, .f32⟩
  | .hbm, ⟨29, _⟩ => ⟨S16384x32x1, .f32⟩
  | .hbm, ⟨30, _⟩ => ⟨S16384x32x1, .f32⟩
  | .hbm, ⟨31, _⟩ => ⟨S16384x32x1, .f32⟩
  | .hbm, ⟨32, _⟩ => ⟨S16384x32x4, .f32⟩
  | .hbm, ⟨33, _⟩ => ⟨S32x10x16384, .f32⟩
  | .hbm, ⟨34, _⟩ => ⟨S16384x32x10, .f32⟩
  | .hbm, ⟨35, _⟩ => ⟨S1x32x10, .f32⟩
  | .hbm, ⟨36, _⟩ => ⟨S16384x32x10, .f32⟩
  | .hbm, ⟨37, _⟩ => ⟨S16384x32x10, .f32⟩
  | .hbm, ⟨38, _⟩ => ⟨S_, .f32⟩
  | .hbm, ⟨39, _⟩ => ⟨S16384x32x10, .f32⟩
  | .hbm, ⟨40, _⟩ => ⟨S16384x32x10, .f32⟩
  | .hbm, ⟨41, _⟩ => ⟨S10x16384x32, .f32⟩
  | .hbm, ⟨42, _⟩ => ⟨S1x16384x32, .f32⟩
  | .hbm, ⟨43, _⟩ => ⟨S10x16384x32, .f32⟩
  | .hbm, ⟨44, _⟩ => ⟨S10x16384x32, .f32⟩
  | .hbm, ⟨45, _⟩ => ⟨S16384x32x10, .f32⟩
  | .hbm, ⟨46, _⟩ => ⟨S16384x320, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S1, .i32⟩
  | .hbm, ⟨56, _⟩ => ⟨S_, .i32⟩
  | .hbm, ⟨57, _⟩ => ⟨S16384x1, .i32⟩
  | .hbm, ⟨58, _⟩ => ⟨S16384x1, .i1⟩
  | .hbm, ⟨59, _⟩ => ⟨S1x1, .i32⟩
  | .hbm, ⟨60, _⟩ => ⟨S16384x1, .i32⟩
  | .hbm, ⟨61, _⟩ => ⟨S16384x1, .i1⟩
  | .hbm, ⟨62, _⟩ => ⟨S16384x1, .i1⟩
  | .hbm, ⟨63, _⟩ => ⟨S_, .i1⟩
  | .hbm, ⟨64, _⟩ => ⟨S16384, .i1⟩
  | .hbm, ⟨65, _⟩ => ⟨S16384x64, .f32⟩
  | .hbm, ⟨66, _⟩ => ⟨S16384x64, .i1⟩
  | .hbm, ⟨67, _⟩ => ⟨S_, .f32⟩
  | .hbm, ⟨68, _⟩ => ⟨S16384x64, .f32⟩
  | .hbm, ⟨69, _⟩ => ⟨S16384x64, .f32⟩
  | .hbm, ⟨70, _⟩ => ⟨S320x192, .f32⟩
  | .hbm, ⟨71, _⟩ => ⟨S16384x192, .f32⟩
  | .hbm, ⟨72, _⟩ => ⟨S1x192, .f32⟩
  | .hbm, ⟨73, _⟩ => ⟨S16384x192, .f32⟩
  | .hbm, ⟨74, _⟩ => ⟨S16384x192, .f32⟩
  | .hbm, ⟨75, _⟩ => ⟨S64x192, .f32⟩
  | .hbm, ⟨76, _⟩ => ⟨S16384x192, .f32⟩
  | .hbm, ⟨77, _⟩ => ⟨S1x192, .f32⟩
  | .hbm, ⟨78, _⟩ => ⟨S16384x192, .f32⟩
  | .hbm, ⟨79, _⟩ => ⟨S16384x192, .f32⟩
  | .hbm, ⟨80, _⟩ => ⟨S16384x64, .f32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16384x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S_, .f32⟩
  | .hbm, ⟨90, _⟩ => ⟨S16384x64, .f32⟩
  | .hbm, ⟨91, _⟩ => ⟨S16384x64, .f32⟩
  | .hbm, ⟨92, _⟩ => ⟨S_, .f32⟩
  | .hbm, ⟨93, _⟩ => ⟨S16384x64, .f32⟩
  | .hbm, ⟨94, _⟩ => ⟨S16384x64, .f32⟩
  | .hbm, ⟨95, _⟩ => ⟨S16384x64, .f32⟩
  | .hbm, ⟨96, _⟩ => ⟨S16384x64, .f32⟩
  | .hbm, ⟨97, _⟩ => ⟨S16384x64, .f32⟩
  | .hbm, ⟨98, _⟩ => ⟨S_, .f32⟩
  | .hbm, ⟨99, _⟩ => ⟨S16384x64, .f32⟩
  | .hbm, ⟨100, _⟩ => ⟨S16384x64, .f32⟩
  | .hbm, ⟨101, _⟩ => ⟨S_, .f32⟩
  | .hbm, ⟨102, _⟩ => ⟨S16384x64, .f32⟩
  | .hbm, ⟨103, _⟩ => ⟨S16384x64, .f32⟩
  | .hbm, ⟨104, _⟩ => ⟨S16384x64, .f32⟩
  | .hbm, ⟨105, _⟩ => ⟨S16384x64, .f32⟩
  | .hbm, ⟨106, _⟩ => ⟨S16384x64, .f32⟩
  | .hbm, ⟨107, _⟩ => ⟨S_, .f32⟩
  | .hbm, ⟨108, _⟩ => ⟨S16384x64, .f32⟩
  | .hbm, ⟨109, _⟩ => ⟨S16384x64, .f32⟩
  | .hbm, ⟨110, _⟩ => ⟨S16384x64, .f32⟩
  | .hbm, ⟨111, _⟩ => ⟨S16384x64, .f32⟩
  | .hbm, ⟨112, _⟩ => ⟨S16384x64, .f32⟩
  | .hbm, ⟨113, _⟩ => ⟨S_, .i32⟩
  | .hbm, ⟨114, _⟩ => ⟨S16384, .i32⟩
  | .hbm, ⟨115, _⟩ => ⟨S16384, .i1⟩
  | .hbm, ⟨116, _⟩ => ⟨S_, .i32⟩
  | .hbm, ⟨117, _⟩ => ⟨S16384, .i32⟩
  | .hbm, ⟨118, _⟩ => ⟨S16384, .i32⟩
  | .hbm, ⟨119, _⟩ => ⟨S16384, .i32⟩
  | .hbm, ⟨120, _⟩ => ⟨S16384x1, .i32⟩
  | .hbm, ⟨121, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_2 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_4 : Ref sig .tc := ⟨.hbm, 98, rfl⟩
abbrev main_v58 : Ref sig .tc := ⟨.hbm, 99, rfl⟩
abbrev main_v59 : Ref sig .tc := ⟨.hbm, 100, rfl⟩
abbrev main_cst_5 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c : Ref sig .tc := ⟨.hbm, 113, rfl⟩
abbrev main_v70 : Ref sig .tc := ⟨.hbm, 114, rfl⟩
abbrev main_v71 : Ref sig .tc := ⟨.hbm, 115, rfl⟩
abbrev main_c_7 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]
-- ==== Proof.Body.lean ====
/-
What one run of the kernel body leaves in its buffers, in the two ways its conditionals can go.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.TableIdle
public import Idealize.ShloMosaic.Lib.Pipeline.Value
public import Idealize.ShloMosaic.Lib.Tactic

@[expose] public section

set_option maxRecDepth 16384

noncomputable section

namespace Cert.ObsUpdate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset, as it is spelt at each access, is the zero function. -/
theorem zero_offset : (![0, 0] : Fin 2 → Nat) = fun _ => 0 := funext fun a => by fin_cases a <;> rfl

/-- One store over a whole buffer leaves what was stored, whatever was there before. -/
theorem read_store_whole {S : Shape} {e : EltTy} {off : Fin S.rank → Nat} (h : off = fun _ => 0)
    (inb : ∀ a, off a + S.size a ≤ S.size a) (v : View sig .tc .vmem S e) (f : v.ty.Contents (Elt F)) (x : Vec F S e) :
    v.read (Elt F) (v.writes (Elt F) f [⟨Rect.unit off S.size inb, x⟩]) = x := by
  rw [View.read_writes_eq_canon v f _ fun y => ⟨_, List.mem_singleton_self _, View.mem_set_unit_zero h inb y⟩]
  exact View.canon_unit_zero h inb x

/-- One load of a whole buffer reads its contents. -/
theorem load_whole {S : Shape} {e : EltTy} {off : Fin S.rank → Nat} (h : off = fun _ => 0)
    (inb : ∀ a, off a + S.size a ≤ S.size a) {a : Memref sig .tc .vmem S e} (ha : a.IsWhole) (x : Vec F S e) :
    View.readAt (Elt F) a.view (Rect.unit off S.size inb).toLoadRect (ha.unread x) = x := by
  rw [View.readAt_eq_ld, ha.read_unread]
  exact View.ld_unit_zero h inb x

-- (the run's proof term is large: checking it walks past the default budget)
set_option maxHeartbeats 1000000 in
/-- The body where it updates (the first conditional taken, the second not): from the eleven inputs' buffers and any
    contents of the two outputs', it leaves the inputs' as they were, the new state block in the first output's buffer and
    the loss block in the second's. -/
theorem body_update (c : Dev nD) (i : grid0.Coords)
    (a1 : Memref sig .tc .vmem S2048x64 .f32) (h1 : a1.IsWhole) (a2 : Memref sig .tc .vmem S2048x64 .f32) (h2 :
      a2.IsWhole) (a3 : Memref sig .tc .vmem S2048x32 .f32) (h3 : a3.IsWhole) (a4 : Memref sig .tc .vmem S2048x32
      .f32) (h4 : a4.IsWhole) (a5 : Memref sig .tc .vmem S128x320 .f32) (h5 : a5.IsWhole) (a6 : Memref sig .tc .vmem
      S1x320 .f32) (h6 : a6.IsWhole) (a7 : Memref sig .tc .vmem S32x320 .f32) (h7 : a7.IsWhole) (a8 : Memref sig .tc
      .vmem S320x192 .f32) (h8 : a8.IsWhole) (a9 : Memref sig .tc .vmem S64x192 .f32) (h9 : a9.IsWhole) (a10 : Memref
      sig .tc .vmem S1x192 .f32) (h10 : a10.IsWhole) (a11 : Memref sig .tc .vmem S1x192 .f32) (h11 : a11.IsWhole) (a12
      : Memref sig .tc .vmem S2048x64 .f32) (h12 : a12.IsWhole) (a13 : Memref sig .tc .vmem S2048x32 .f32) (h13 :
      a13.IsWhole)
    (hc1 : k0_cond1 i = 1#1) (hc2 : ¬ k0_cond2 i = 1#1)
    (x0 : Vec F S2048x64 .f32) (x1 : Vec F S2048x64 .f32) (x2 : Vec F S2048x32 .f32) (x3 : Vec F S2048x32 .f32) (x4 :
      Vec F S128x320 .f32) (x5 : Vec F S1x320 .f32) (x6 : Vec F S32x320 .f32) (x7 : Vec F S320x192 .f32) (x8 : Vec F
      S64x192 .f32) (x9 : Vec F S1x192 .f32) (x10 : Vec F S1x192 .f32) (y11 : Vec F S2048x64 .f32) (y12 : Vec F
      S2048x32 .f32) (E : Set ℕ) (K : PUnit → sProp 𝕄) :
    iprop(owns (c : Thread nD τ) a1 fullShare x0 ∗ owns (c : Thread nD τ) a2 fullShare x1 ∗ owns (c : Thread nD τ) a3
      fullShare x2 ∗ owns (c : Thread nD τ) a4 fullShare x3 ∗ owns (c : Thread nD τ) a5 fullShare x4 ∗ owns (c :
      Thread nD τ) a6 fullShare x5 ∗ owns (c : Thread nD τ) a7 fullShare x6 ∗ owns (c : Thread nD τ) a8 fullShare x7 ∗
      owns (c : Thread nD τ) a9 fullShare x8 ∗ owns (c : Thread nD τ) a10 fullShare x9 ∗ owns (c : Thread nD τ) a11
      fullShare x10
          ∗ owns (c : Thread nD τ) a12 fullShare y11 ∗ owns (c : Thread nD τ) a13 fullShare y12
          ∗ (iprop(owns (c : Thread nD τ) a1 fullShare x0 ∗ owns (c : Thread nD τ) a2 fullShare x1 ∗ owns (c : Thread
            nD τ) a3 fullShare x2 ∗ owns (c : Thread nD τ) a4 fullShare x3 ∗ owns (c : Thread nD τ) a5 fullShare x4 ∗
            owns (c : Thread nD τ) a6 fullShare x5 ∗ owns (c : Thread nD τ) a7 fullShare x6 ∗ owns (c : Thread nD τ)
            a8 fullShare x7 ∗ owns (c : Thread nD τ) a9 fullShare x8 ∗ owns (c : Thread nD τ) a10 fullShare x9 ∗ owns
            (c : Thread nD τ) a11 fullShare x10
              ∗ owns (c : Thread nD τ) a12 fullShare (k0_pay1 (k0_pay6 x2 x1 x3 x4 x5 x6) x0 (k0_pay7 x7) x9 x8 x10) ∗
                owns (c : Thread nD τ) a13 fullShare (k0_pay5 x2 x1 x3)) -∗ K ⟨⟩))
      ⊢ wp frame (wpE (defs₀ (F := F)) Variants.none c none) E
          (cc0__obs_update_kernel i a1 h1 a2 h2 a3 h3 a4 h4 a5 h5 a6 h6 a7 h7 a8 h8 a9 h9 a10 h10 a11 h11 a12 h12 a13
            h13) K := by
  simp only [cc0__obs_update_kernel_eq_skeleton]; unfold cc0__obs_update_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%f10, %hf10, H10⟩, ⟨%f11, %hf11, H11⟩, ⟨%f12,
    %hf12, H12⟩, Hk⟩
  obtain rfl := h1.eq_unread hf0; obtain rfl := h2.eq_unread hf1; obtain rfl := h3.eq_unread hf2; obtain rfl :=
    h4.eq_unread hf3; obtain rfl := h5.eq_unread hf4; obtain rfl := h6.eq_unread hf5; obtain rfl := h7.eq_unread hf6;
    obtain rfl := h8.eq_unread hf7; obtain rfl := h9.eq_unread hf8; obtain rfl := h10.eq_unread hf9; obtain rfl :=
    h11.eq_unread hf10; obtain rfl := h12.eq_unread hf11; obtain rfl := h13.eq_unread hf12
  sl_exec (disch := first | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; isplitr; · ipureintro; exact h9.read_unread _
    iexact H8
  isplitl [H9]
  · iexists _; isplitr; · ipureintro; exact h10.read_unread _
    iexact H9
  isplitl [H10]
  · iexists _; isplitr; · ipureintro; exact h11.read_unread _
    iexact H10
  isplitl [H11]
  · iexists _; isplitr; swap; · iexact H11
    ipureintro
    rw [read_store_whole zero_offset]
    sl_unfold_words
    congr 1
    · congr 1 <;> exact load_whole zero_offset _ _ _
    · exact load_whole zero_offset _ _ _
    · congr 1; exact load_whole zero_offset _ _ _
    · exact load_whole (S := S1x192) zero_offset _ _ _
    · exact load_whole (S := S64x192) zero_offset _ _ _
    · exact load_whole (S := S1x192) zero_offset _ _ _
  iexists _; isplitr; swap; · iexact H12
  ipureintro
  rw [read_store_whole (S := S2048x32) zero_offset]
  congr 1 <;> exact load_whole zero_offset _ _ _

-- (the run's proof term is large: checking it walks past the default budget)
set_option maxHeartbeats 1000000 in
/-- The body where it copies (the second conditional taken, the first not): the state block goes to the first output's
    buffer and the second output's is left alone. -/
theorem body_copy (c : Dev nD) (i : grid0.Coords)
    (a1 : Memref sig .tc .vmem S2048x64 .f32) (h1 : a1.IsWhole) (a2 : Memref sig .tc .vmem S2048x64 .f32) (h2 :
      a2.IsWhole) (a3 : Memref sig .tc .vmem S2048x32 .f32) (h3 : a3.IsWhole) (a4 : Memref sig .tc .vmem S2048x32
      .f32) (h4 : a4.IsWhole) (a5 : Memref sig .tc .vmem S128x320 .f32) (h5 : a5.IsWhole) (a6 : Memref sig .tc .vmem
      S1x320 .f32) (h6 : a6.IsWhole) (a7 : Memref sig .tc .vmem S32x320 .f32) (h7 : a7.IsWhole) (a8 : Memref sig .tc
      .vmem S320x192 .f32) (h8 : a8.IsWhole) (a9 : Memref sig .tc .vmem S64x192 .f32) (h9 : a9.IsWhole) (a10 : Memref
      sig .tc .vmem S1x192 .f32) (h10 : a10.IsWhole) (a11 : Memref sig .tc .vmem S1x192 .f32) (h11 : a11.IsWhole) (a12
      : Memref sig .tc .vmem S2048x64 .f32) (h12 : a12.IsWhole) (a13 : Memref sig .tc .vmem S2048x32 .f32) (h13 :
      a13.IsWhole)
    (hc1 : ¬ k0_cond1 i = 1#1) (hc2 : k0_cond2 i = 1#1)
    (x0 : Vec F S2048x64 .f32) (x1 : Vec F S2048x64 .f32) (x2 : Vec F S2048x32 .f32) (x3 : Vec F S2048x32 .f32) (x4 :
      Vec F S128x320 .f32) (x5 : Vec F S1x320 .f32) (x6 : Vec F S32x320 .f32) (x7 : Vec F S320x192 .f32) (x8 : Vec F
      S64x192 .f32) (x9 : Vec F S1x192 .f32) (x10 : Vec F S1x192 .f32) (y11 : Vec F S2048x64 .f32) (y12 : Vec F
      S2048x32 .f32) (E : Set ℕ) (K : PUnit → sProp 𝕄) :
    iprop(owns (c : Thread nD τ) a1 fullShare x0 ∗ owns (c : Thread nD τ) a2 fullShare x1 ∗ owns (c : Thread nD τ) a3
      fullShare x2 ∗ owns (c : Thread nD τ) a4 fullShare x3 ∗ owns (c : Thread nD τ) a5 fullShare x4 ∗ owns (c :
      Thread nD τ) a6 fullShare x5 ∗ owns (c : Thread nD τ) a7 fullShare x6 ∗ owns (c : Thread nD τ) a8 fullShare x7 ∗
      owns (c : Thread nD τ) a9 fullShare x8 ∗ owns (c : Thread nD τ) a10 fullShare x9 ∗ owns (c : Thread nD τ) a11
      fullShare x10
          ∗ owns (c : Thread nD τ) a12 fullShare y11 ∗ owns (c : Thread nD τ) a13 fullShare y12
          ∗ (iprop(owns (c : Thread nD τ) a1 fullShare x0 ∗ owns (c : Thread nD τ) a2 fullShare x1 ∗ owns (c : Thread
            nD τ) a3 fullShare x2 ∗ owns (c : Thread nD τ) a4 fullShare x3 ∗ owns (c : Thread nD τ) a5 fullShare x4 ∗
            owns (c : Thread nD τ) a6 fullShare x5 ∗ owns (c : Thread nD τ) a7 fullShare x6 ∗ owns (c : Thread nD τ)
            a8 fullShare x7 ∗ owns (c : Thread nD τ) a9 fullShare x8 ∗ owns (c : Thread nD τ) a10 fullShare x9 ∗ owns
            (c : Thread nD τ) a11 fullShare x10
              ∗ owns (c : Thread nD τ) a12 fullShare x0 ∗ owns (c : Thread nD τ) a13 fullShare y12) -∗ K ⟨⟩))
      ⊢ wp frame (wpE (defs₀ (F := F)) Variants.none c none) E
          (cc0__obs_update_kernel i a1 h1 a2 h2 a3 h3 a4 h4 a5 h5 a6 h6 a7 h7 a8 h8 a9 h9 a10 h10 a11 h11 a12 h12 a13
            h13) K := by
  simp only [cc0__obs_update_kernel_eq_skeleton]; unfold cc0__obs_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%f10, %hf10, H10⟩, ⟨%f11, %hf11, H11⟩, ⟨%f12,
    %hf12, H12⟩, Hk⟩
  obtain rfl := h1.eq_unread hf0; obtain rfl := h2.eq_unread hf1; obtain rfl := h3.eq_unread hf2; obtain rfl :=
    h4.eq_unread hf3; obtain rfl := h5.eq_unread hf4; obtain rfl := h6.eq_unread hf5; obtain rfl := h7.eq_unread hf6;
    obtain rfl := h8.eq_unread hf7; obtain rfl := h9.eq_unread hf8; obtain rfl := h10.eq_unread hf9; obtain rfl :=
    h11.eq_unread hf10; obtain rfl := h12.eq_unread hf11; obtain rfl := h13.eq_unread hf12
  sl_exec (disch := first | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; isplitr; · ipureintro; exact h9.read_unread _
    iexact H8
  isplitl [H9]
  · iexists _; isplitr; · ipureintro; exact h10.read_unread _
    iexact H9
  isplitl [H10]
  · iexists _; isplitr; · ipureintro; exact h11.read_unread _
    iexact H10
  isplitl [H11]
  · iexists _; isplitr; swap; · iexact H11
    ipureintro
    rw [read_store_whole (S := S2048x64) zero_offset]
    exact load_whole zero_offset _ _ _
  iexists _; isplitr; swap; · iexact H12
  ipureintro
  exact h13.read_unread _

end Cert.ObsUpdate
end
-- ==== Proof.Launch.lean ====
/-
The run of the kernel: what its buffers hold at each grid point, the body's obligation at every point, and the run of
the whole program from any memory.
-/
module

public import proofs.«01_k».proof.Proof.Body
public import Idealize.ShloMosaic.Lib.Claim

@[expose] public section

set_option maxRecDepth 16384

noncomputable section

namespace Cert.ObsUpdate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem lt_points (t : Fin cfg0.N) : t.val < 489 := lt_of_lt_of_eq t.isLt (show cfg0.N = 489 from N_0)

/-- The grid point of a number below 489. -/
abbrev pt (n : ℕ) (h : n < 489) : Fin cfg0.N := ⟨n, lt_of_lt_of_eq h (show 489 = cfg0.N from N_0.symm)⟩

/-- The body updates at the first eight points, -/
theorem update_iff : ∀ t : Fin cfg0.N, k0_cond1 (grid0.coords t) = 1#1 ↔ t.val < 8 :=
  (by decide +kernel : ∀ t : Fin grid0.N, k0_cond1 (grid0.coords t) = 1#1 ↔ t.val < 8)

/-- and copies at the others. -/
theorem copy_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The state output is stored at every point, -/
theorem state_stored (t : Fin cfg0.N) : cfg0.idle 11 (grid0.coords t) = false := by
  show (!(k0_cond1 (grid0.coords t) == 1#1) && !(k0_cond2 (grid0.coords t) == 1#1)) = false
  rcases Nat.lt_or_ge t.val 8 with h | h
  · rw [(update_iff t).mpr h]; rfl
  · rw [(copy_iff t).mpr h, Bool.and_eq_false_iff]; exact Or.inr rfl

/-- the loss output at the first eight. -/
theorem loss_idle (t : Fin cfg0.N) : cfg0.idle 12 (grid0.coords t) = decide (8 ≤ t.val) := by
  show (!(k0_cond1 (grid0.coords t) == 1#1)) = _
  rcases Nat.lt_or_ge t.val 8 with h | h
  · rw [(update_iff t).mpr h, decide_eq_false (by omega)]; rfl
  · rw [decide_eq_true h, Bool.not_eq_true', beq_eq_false_iff_ne]
    exact fun e => absurd ((update_iff t).mp e) (by omega)

/-- The loss output is written back after the points 0 to 6, and once more, from the buffer of point 7, at the last. -/
theorem loss_flush (t : Fin cfg0.N) : (cfg0.win 12).flush t = decide (t.val < 7 ∨ t.val = 488) := by
  rw [Window.flush_eq_flushF]
  revert t
  exact (by decide +kernel : ∀ t : Fin grid0.N, win0_12.flushF t = decide (t.val < 7 ∨ t.val = 488))

/-- Its buffer holds something named from point 8 on. -/
theorem loss_fresh (n : ℕ) (h : n ≤ cfg0.N) : cfg0.fresh 12 n = decide (n < 8 ∨ 489 ≤ n) := by
  refine Cfg.fresh_tab cfg0 12 (fun n => decide (n < 8 ∨ 489 ≤ n)) rfl (fun t => ?_) n h
  show _ = ((cfg0.win 12).flush t || (cfg0.idle 12 (grid0.coords t) && decide (t.val < 8 ∨ 489 ≤ t.val)))
  rw [loss_flush, loss_idle]
  have := lt_points t
  simp only [← Bool.decide_and, ← Bool.decide_or, decide_eq_decide]
  omega

/-! ## What the buffers hold -/

/-- The state block of point `t`, filled out by zeros where the last block runs past the array. -/
def stateBlk (c : Dev nD) (t : Fin cfg0.N) : Vec F S2048x64 .f32 :=
  win0_0.fill (grid0.coords t) (fun _ => Scalar.ofBits .f32 0#32) (iblk m c 0 t)

/-- The new state block the update leaves at point `t`. -/
def updBlk (c : Dev nD) (t : Fin cfg0.N) : Vec F S2048x64 .f32 :=
  k0_pay1 (k0_pay6 (iblk m c 2 t) (iblk m c 1 t) (iblk m c 3 t) (iblk m c 4 t) (iblk m c 5 t) (iblk m c 6 t))
    (stateBlk m c t) (k0_pay7 (iblk m c 7 t)) (iblk m c 9 t) (iblk m c 8 t) (iblk m c 10 t)

/-- The loss block the update leaves at point `t`. -/
def lossBlk (c : Dev nD) (t : Fin cfg0.N) : Vec F S2048x32 .f32 :=
  k0_pay5 (iblk m c 2 t) (iblk m c 1 t) (iblk m c 3 t)

/-- The proof data on core `c`: after point `t` each input's buffer holds its block, the state output's the updated or
    the copied block, and the loss output's the loss block of the last point that stored one. -/
def dats (_ : Fin 1) (c : Dev nD) : Dat τ (Elt F) Unit ℕ (UR sig nD τ) ℕ cfg0 c where
  A w := V m c (Pipeline.arrRef spec0 w)
  after w t := match w with
    | ⟨0, _⟩ => stateBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => if t.val < 8 then updBlk m c t else stateBlk m c t
    | ⟨12, _⟩ => lossBlk m c (pt (min t.val 7) (by omega))
  Φ _ := Pipeline.ΦA spec0 c
  q _ := fullShare
  owed _ := 0

/-- The arrays are as the kernel call finds them. -/
theorem A_eq (c : Dev nD) (w : Fin cfg0.W) : (dats m 0 c).A w = V m c (Pipeline.arrRef spec0 w) := by
  dsimp only [dats]

/-! ### After the body -/

theorem after_0 (c : Dev nD) (t : Fin cfg0.N) : (dats m 0 c).after 0 t = stateBlk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem after_11 (c : Dev nD) (t : Fin cfg0.N) :
    (dats m 0 c).after 11 t = if t.val < 8 then updBlk m c t else stateBlk m c t := by dsimp only [dats]

theorem after_12 (c : Dev nD) (t : Fin cfg0.N) :
    (dats m 0 c).after 12 t = lossBlk m c (pt (min t.val 7) (by omega)) := by dsimp only [dats]

/-! ### Before the body -/

/-- The state block is fetched at every point; past the array's end the buffer holds anything. -/
theorem before_0 (c : Dev nD) (t : Fin cfg0.N) (d) :
    (dats m 0 c).before 0 t d = win0_0.fill (grid0.coords t) d (iblk m c 0 t) := by
  unfold Dat.before; rw [if_pos (fetch0_0 t)]; rfl

theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- From point 8 on, the loss buffer holds the loss block of point 7, the one it is left with. -/
theorem before_12 (c : Dev nD) (t : Fin cfg0.N) (h : 8 ≤ t.val) (d) :
    (dats m 0 c).before 12 t d = (dats m 0 c).after 12 t := by
  have hprev : ∀ (t : Fin cfg0.N) (_ : 8 ≤ t.val),
      (dats m 0 c).after 12 t = (dats m 0 c).after 12 ⟨t.val - 1, by omega⟩ := fun t h => by
    rw [after_12, after_12]
    congr 1
    exact Fin.ext (show min t.val 7 = min (t.val - 1) 7 by omega)
  rw [Dat.before_out_traj (dats m 0 c) 12 rfl (fun _ _ => rfl) (fun t _ hi _ => hprev t (by
      rw [loss_idle] at hi; exact of_decide_eq_true hi)) t.val t rfl d,
    loss_fresh t.val t.isLt.le, if_neg (by have := lt_points t; simp; omega), hprev t h]

/-! ### The state block inside the array -/

/-- At the first eight points the block's extents inside the array are its own, -/
theorem inside_size : ∀ t : Fin cfg0.N, t.val < 8 → ∀ a, win0_0.xsize (grid0.coords t) a = win0_0.size a :=
  (by decide +kernel : ∀ t : Fin grid0.N, t.val < 8 → ∀ a, win0_0.xsize (grid0.coords t) a = win0_0.size a)

/-- so nothing fills it out. -/
theorem fill_inside (c : Dev nD) (t : Fin cfg0.N) (h : t.val < 8) (d : Vec F S2048x64 .f32) :
    win0_0.fill (grid0.coords t) d (iblk m c 0 t) = stateBlk m c t := by
  have hm : ∀ j, win0_0.moved (grid0.coords t) j = true := fun j => by
    rw [Window.moved_iff]
    intro a
    rw [inside_size t h a]
    exact (j a).isLt
  funext j
  unfold stateBlk Window.fill
  rw [dif_pos (hm j), dif_pos (hm j)]

/-- On the rows inside the array the state block is the array's own. -/
theorem cut_stateBlk (c : Dev nD) (t : Fin cfg0.N) :
    win0_0.cut (grid0.coords t) (stateBlk m c t) = iblk m c 0 t := win0_0.cut_fill _ _ _

/-! ## The body's obligation -/

/-- The body as the pipeline calls it at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- At every point the body, from the buffers as it finds them, leaves them as the proof data says. -/
theorem body_obligation (c : Dev nD) :
    BodyObligationLoose (dats (F := F) m 0 c) (defs₀ (F := F)) Variants.none () Set.univ := fun t => by
  rw [bigSep_W0, bigSep_W0, defs₀_row]
  unfold bodyAt0
  simp only [after_1, after_2, after_3, after_4, after_5, after_6, after_7, after_8, after_9, after_10]
  rw [show (dats m 0 c).Φ t.succ = (dats m 0 c).Φ t.castSucc from rfl,
    show (dats m 0 c).owesAt () t.succ = (dats m 0 c).owesAt () t.castSucc from rfl,
    show idle0 11 (grid0.coords t) = false from state_stored t,
    show idle0 12 (grid0.coords t) = decide (8 ≤ t.val) from loss_idle t]
  by_cases h : t.val < 8
  · rw [decide_eq_false (show ¬ 8 ≤ t.val by omega)]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩⟩
    rw [before_0, fill_inside m c t h]
    simp only [before_1, before_2, before_3, before_4, before_5, before_6, before_7, before_8, before_9, before_10]
    iapply (body_update c (grid0.coords t) _ _ _ _ _ _ _ _ _ _ _ _ _ _ _ _ _ _ _ _ _ _ _ _ _ _ ((update_iff t).mpr h)
      (fun e => absurd ((copy_iff t).mp e) (by omega))
      (stateBlk m c t) (iblk m c 1 t) (iblk m c 2 t) (iblk m c 3 t) (iblk m c 4 t) (iblk m c 5 t) (iblk m c 6 t) (iblk
        m c 7 t) (iblk m c 8 t) (iblk m c 9 t) (iblk m c 10 t)
      _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]
    · iexists stateBlk m c t
      change _ ⊢ owns _ _ _ (win0_0.fill (grid0.coords t) (stateBlk m c t)
        (win0_0.cut (grid0.coords t) ((dats m 0 c).after 0 t)))
      rw [after_0, Window.fill_cut]; try iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists updBlk m c t
      change _ ⊢ owns _ _ _ (win0_11.fill (grid0.coords t) (updBlk m c t)
        (win0_11.cut (grid0.coords t) ((dats m 0 c).after 11 t)))
      rw [after_11, if_pos h, Window.fill_cut]; exact .rfl
    rw [after_12, show pt (min t.val 7) (by omega) = t from Fin.ext (show min t.val 7 = t.val by omega)]
    unfold lossBlk; try iexact H12
  · rw [decide_eq_true (show 8 ≤ t.val by omega)]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩⟩
    rw [before_0]
    simp only [before_1, before_2, before_3, before_4, before_5, before_6, before_7, before_8, before_9, before_10]
    iapply (body_copy c (grid0.coords t) _ _ _ _ _ _ _ _ _ _ _ _ _ _ _ _ _ _ _ _ _ _ _ _ _ _ (fun e => h ((update_iff
      t).mp e)) ((copy_iff t).mpr (by omega))
      (win0_0.fill (grid0.coords t) d0 (iblk m c 0 t)) (iblk m c 1 t) (iblk m c 2 t) (iblk m c 3 t) (iblk m c 4 t)
        (iblk m c 5 t) (iblk m c 6 t) (iblk m c 7 t) (iblk m c 8 t) (iblk m c 9 t) (iblk m c 10 t)
      _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]
    · iexists d0
      change _ ⊢ owns _ _ _ (win0_0.fill (grid0.coords t) d0
        (win0_0.cut (grid0.coords t) ((dats m 0 c).after 0 t)))
      rw [after_0, cut_stateBlk]; try iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists d0
      change _ ⊢ owns _ _ _ (win0_0.fill (grid0.coords t) d0
        (win0_0.cut (grid0.coords t) ((dats m 0 c).after 11 t)))
      rw [after_11, if_neg h, cut_stateBlk]; try iexact H11
    cases (win0 12).flush t
    · iexists d12
      iexact H12
    · dsimp only
      rw [before_12 m c t (by omega) d12]; try iexact H12

/-! ## The run -/

-- the launch theorem's implicit arguments are found by unifying its conclusion with this one, which takes unfolding plain
-- definitions in a metavariable's type
set_option backward.isDefEq.respectTransparency.types false in
/-- From any memory with zero counters every run of the program ends, with the kernel's arrays as the proof data computes
    them, every other buffer as the kernel call found it, and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The argument arrays end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.ObsUpdate

end
-- ==== Proof.Same.lean ====
/-
The two printings of the kernel program are one program; so what is proved of one holds of the other.
-/
module

public import proofs.«01_k».proof.Proof.Launch
public import proofs.«01_k».proof.Proof.Gen.Kernel
public import proofs.«01_k».proof.Defs

@[expose] public section

set_option maxRecDepth 16384

noncomputable section

namespace Cert.ObsUpdate

open Idealize.ShloMosaic Idealize.ShloMosaic.TcCoe Idealize.SL.Sem

variable {F : FTy → Type} [FloatOps F]

section
variable [h1 : Cert.Kernel.Facts] [h2 : Cert.KernelIdeal.Facts]

/-- The host program is the same, -/
theorem main_same : @Cert.Kernel.main F _ h1 = @Cert.KernelIdeal.main F _ h2 := rfl

/-- the kernel body is the same, -/
theorem body_same : @Cert.Kernel.defs₀ F _ h1 = @Cert.KernelIdeal.defs₀ F _ h2 := by
  unfold Cert.Kernel.defs₀ Cert.KernelIdeal.defs₀
  congr 1
  funext l a
  match l, a with
  | 0, (t, s) => rfl
  | ⟨n + 1, h⟩, _ => exact absurd h (Nat.not_lt.2 (Nat.le_add_left _ _))

/-- and so is the pipeline around it. -/
theorem defs_same : @Cert.Kernel.defs F _ h1 = @Cert.KernelIdeal.defs F _ h2 := by
  show Pipeline.defs _ _ = Pipeline.defs _ _
  rw [← body_same]

end

/-- The kernel as printed runs, changes no argument and leaves every counter at zero. -/
theorem quiescent_Kernel : @Cert.quiescent_Kernel Cert.Kernel.Gen.facts := by
  intro m ρ _
  rw [defs_same (h1 := Cert.Kernel.Gen.facts) (h2 := Cert.KernelIdeal.Gen.facts),
    main_same (h1 := Cert.Kernel.Gen.facts) (h2 := Cert.KernelIdeal.Gen.facts)]
  exact run_frame m ρ

/-- So does the kernel at the ideal values. -/
theorem quiescent_KernelIdeal : @Cert.quiescent_KernelIdeal Cert.KernelIdeal.Gen.facts := by
  intro m ρ _
  exact run_frame m ρ

end Cert.ObsUpdate

end
-- ==== Proof.Row.lean ====
/-
One row of the update, as extended-real arithmetic: the standardised error, the loss, the prepared input of the
recurrent cell, its gates and the new state. Both programs are read against these.
-/
module

public import Idealize.ShloMosaic.Lib.Pointwise

@[expose] public section

noncomputable section

namespace Cert.ObsUpdate

open Idealize.ShloMosaic

/-- The error of an observation `x` in standard deviations, `mu` the mean and `lv` the log-variance. -/
def rowErr (x mu lv : EReal) : EReal := (x - mu) * Ideal.exp (Ideal.ofBits .f32 0xBF000000#32 * lv)

/-- Its loss, counted by the mask `k`. -/
def rowLoss (x mu lv k : EReal) : EReal :=
  Ideal.ofBits .f32 0x3F000000#32 *
    ((rowErr x mu lv * rowErr x mu lv + lv + Ideal.ofBits .f32 0x3FEB3F8E#32) * k)

/-- The feature of column `q` of the prepared input, and its channel. -/
abbrev feat (q : Fin 320) : Fin 32 := ⟨q.val / 10, by omega⟩
abbrev chan (q : Fin 320) : Fin 10 := ⟨q.val % 10, by omega⟩

/-- The prepared input of the cell at column `q`: the four readings of a feature, weighed, biased, cut off below zero
    and masked. -/
def rowIn (x mu lv k : Fin 32 → EReal) (w : Fin 32 → Fin 4 → Fin 10 → EReal) (b : Fin 32 → Fin 10 → EReal)
    (q : Fin 320) : EReal :=
  max (x (feat q) * w (feat q) 0 (chan q) + mu (feat q) * w (feat q) 1 (chan q) + lv (feat q) * w (feat q) 2 (chan q)
      + rowErr (x (feat q)) (mu (feat q)) (lv (feat q)) * w (feat q) 3 (chan q) + b (feat q) (chan q)) 0 * k (feat q)

/-- The 192 gate inputs: the row times a weight matrix, plus a bias. -/
def rowGates {n : ℕ} (u : Fin n → EReal) (w : Fin 192 → Fin n → EReal) (b : Fin 192 → EReal) (k : Fin 192) : EReal :=
  ∑ q : Fin n, u q * w k q + b k

/-- The gate inputs of state column `k`: the reset's, the update's and the candidate's. -/
abbrev gateR (k : Fin 64) : Fin 192 := ⟨k.val, by omega⟩
abbrev gateZ (k : Fin 64) : Fin 192 := ⟨64 + k.val, by omega⟩
abbrev gateN (k : Fin 64) : Fin 192 := ⟨128 + k.val, by omega⟩

/-- The new state at column `k`, from the gate inputs and the old state. -/
def rowCell (gi gh : Fin 192 → EReal) (h : Fin 64 → EReal) (k : Fin 64) : EReal :=
  (1 - Ideal.logistic (gi (gateZ k) + gh (gateZ k)))
      * Ideal.tanh (gi (gateN k) + Ideal.logistic (gi (gateR k) + gh (gateR k)) * gh (gateN k))
    + Ideal.logistic (gi (gateZ k) + gh (gateZ k)) * h k

theorem rowGates_congr {n : ℕ} {u u' : Fin n → EReal} {w w' : Fin 192 → Fin n → EReal} {b b' : Fin 192 → EReal}
    (hu : ∀ q, u q = u' q) (hw : ∀ k q, w k q = w' k q) (hb : ∀ k, b k = b' k) (k : Fin 192) :
    rowGates u w b k = rowGates u' w' b' k := by
  rw [funext hu, show w = w' from funext fun k => funext (hw k), funext hb]

theorem rowCell_congr {gi gi' gh gh' : Fin 192 → EReal} {h h' : Fin 64 → EReal}
    (hi : ∀ k, gi k = gi' k) (hh : ∀ k, gh k = gh' k) (hs : ∀ k, h k = h' k) (k : Fin 64) :
    rowCell gi gh h k = rowCell gi' gh' h' k := by
  rw [funext hi, funext hh, funext hs]

/-! ## Whole arrays -/

/-- The losses of the observations `x` under the predictions `p` (means, then log-variances), counted by the mask `k`. -/
def losses (x k : FVec Ideal ⟨2, ![16384, 32]⟩ .f32) (p : FVec Ideal ⟨2, ![16384, 64]⟩ .f32) :
    FVec Ideal ⟨2, ![16384, 32]⟩ .f32 := fun j =>
  rowLoss (x (ix2 (j 0) (j 1))) (p (ix2 (j 0) ⟨(j 1).val, Nat.lt_of_lt_of_le (j 1).isLt (show 32 ≤ 64 by omega)⟩))
    (p (ix2 (j 0) ⟨32 + (j 1).val, Nat.add_lt_add_left (j 1).isLt 32⟩)) (k (ix2 (j 0) (j 1)))

section

variable (h : FVec Ideal ⟨2, ![1000000, 64]⟩ .f32) (p : FVec Ideal ⟨2, ![16384, 64]⟩ .f32)
  (x k : FVec Ideal ⟨2, ![16384, 32]⟩ .f32) (w : FVec Ideal ⟨3, ![32, 4, 10]⟩ .f32) (b : FVec Ideal ⟨2, ![32, 10]⟩ .f32)
  (wi : FVec Ideal ⟨2, ![192, 320]⟩ .f32) (wh : FVec Ideal ⟨2, ![192, 64]⟩ .f32) (bi bh : FVec Ideal ⟨1, ![192]⟩ .f32)

/-- The prepared input of observation `r`. -/
def prepared (r : Fin 16384) (q : Fin 320) : EReal :=
  rowIn (fun d => x (ix2 r d)) (fun d => p (ix2 r ⟨d.val, by omega⟩)) (fun d => p (ix2 r ⟨32 + d.val, by omega⟩))
    (fun d => k (ix2 r d)) (fun d f a => w (ix3 d f a)) (fun d a => b (ix2 d a)) q

/-- The new state of observation `r` at column `l`, its old state row `r` of the table. -/
def newRow (r : Fin 16384) (l : Fin 64) : EReal :=
  rowCell (rowGates (prepared p x k w b r) (fun g q => wi (ix2 g q)) (fun g => bi (ix1 g)))
    (rowGates (fun q : Fin 64 => h (ix2 ⟨r.val, by omega⟩ q)) (fun g q => wh (ix2 g q)) (fun g => bh (ix1 g)))
    (fun l => h (ix2 ⟨r.val, by omega⟩ l)) l

/-- The new table: the first 16384 rows updated, the others kept. -/
def newTable : FVec Ideal ⟨2, ![1000000, 64]⟩ .f32 := fun j =>
  if e : (j 0).val < 16384 then newRow h p x k w b wi wh bi bh ⟨(j 0).val, e⟩ (j 1) else h j

theorem newTable_new (r : Fin 1000000) (l : Fin 64) (e : r.val < 16384) :
    newTable h p x k w b wi wh bi bh (ix2 r l) = newRow h p x k w b wi wh bi bh ⟨r.val, e⟩ l := dif_pos e

theorem newTable_kept (r : Fin 1000000) (l : Fin 64) (e : ¬ r.val < 16384) :
    newTable h p x k w b wi wh bi bh (ix2 r l) = h (ix2 r l) := dif_neg e

end

end Cert.ObsUpdate

end
-- ==== Proof.Payload.lean ====
/-
What the kernel body stores, read at an index: each row of a stored block is the row arithmetic of `Row`.
-/
module

public import proofs.«01_k».proof.Proof.Row
public import proofs.«01_k».proof.Proof.Gen.KernelIdeal.Skeleton

@[expose] public section

noncomputable section

namespace Cert.ObsUpdate

open Cert.KernelIdeal Cert.KernelIdeal.Gen Idealize.ShloMosaic

theorem pay4_apply (x : FVec Ideal S2048x32 .f32) (p : FVec Ideal S2048x64 .f32) (r : Fin 2048) (d : Fin 32) :
    k0_pay4 (F := Ideal) x p (ix2 r d) = rowErr (x (ix2 r d)) (p (ix2 r ⟨d.val, by omega⟩)) (p (ix2 r ⟨32 + d.val, by omega⟩)) := by
  pointwise [k0_pay4, k0_pay2, k0_pay3]
  rfl

theorem pay5_apply (x : FVec Ideal S2048x32 .f32) (p : FVec Ideal S2048x64 .f32) (k : FVec Ideal S2048x32 .f32)
    (r : Fin 2048) (d : Fin 32) :
    k0_pay5 (F := Ideal) x p k (ix2 r d)
      = rowLoss (x (ix2 r d)) (p (ix2 r ⟨d.val, by omega⟩)) (p (ix2 r ⟨32 + d.val, by omega⟩)) (k (ix2 r d)) := by
  pointwise [k0_pay5, k0_pay3, pay4_apply]
  rfl

theorem pay1_apply (u : FVec Ideal S2048x320 .f32) (h : FVec Ideal S2048x64 .f32) (wi : FVec Ideal S320x192 .f32)
    (bi : FVec Ideal S1x192 .f32) (wh : FVec Ideal S64x192 .f32) (bh : FVec Ideal S1x192 .f32)
    (r : Fin 2048) (k : Fin 64) :
    k0_pay1 (F := Ideal) u h wi bi wh bh (ix2 r k)
      = rowCell (rowGates (fun q : Fin 320 => u (ix2 r q)) (fun k q => wi (ix2 q k)) (fun k => bi (ix2 0 k)))
          (rowGates (fun q : Fin 64 => h (ix2 r q)) (fun k q => wh (ix2 q k)) (fun k => bh (ix2 0 k)))
          (fun k => h (ix2 r k)) k := by
  pointwise [k0_pay1]
  rfl

/-- A sum of 128 terms is four sums of 32. -/
theorem sum_quarters (f : Fin 128 → EReal) :
    ∑ a, f a = ∑ j : Fin 32, f ⟨j.val, by omega⟩ + ∑ j : Fin 32, f ⟨32 + j.val, by omega⟩
      + ∑ j : Fin 32, f ⟨64 + j.val, by omega⟩ + ∑ j : Fin 32, f ⟨96 + j.val, by omega⟩ := by
  rw [← (finProdFinEquiv (m := 4) (n := 32)).sum_comp f, Fintype.sum_prod_type, Fin.sum_univ_four]
  refine congrArg₂ (· + ·) (congrArg₂ (· + ·) (congrArg₂ (· + ·) ?_ ?_) ?_) ?_ <;>
    exact Finset.sum_congr rfl fun j _ => congrArg f (Fin.ext (by
      simp only [finProdFinEquiv_apply_val, Fin.val_zero, Fin.val_one, Fin.val_two, Fin.isValue]; omega))

/-- A weighted sum against one column of the unit matrix is the one term. -/
theorem sum_unit (v w : Fin 32 → EReal) (d : Fin 32) :
    ∑ j : Fin 32, v j * (w j * if j = d then 1 else 0) = v d * w d := by
  rw [Finset.sum_eq_single d (fun j _ hj => by rw [if_neg hj, mul_zero, mul_zero])
    (fun h => absurd (Finset.mem_univ d) h), if_pos rfl, mul_one]

/-- The prepared input: where the weights are the block-diagonal arrangement of `w` and the mask's weights the repeated
    unit matrix, each column reads its own feature alone. -/
theorem pay6_apply (x : FVec Ideal S2048x32 .f32) (p : FVec Ideal S2048x64 .f32) (k : FVec Ideal S2048x32 .f32)
    (wb : FVec Ideal S128x320 .f32) (bp : FVec Ideal S1x320 .f32) (me : FVec Ideal S32x320 .f32)
    (w : Fin 32 → Fin 4 → Fin 10 → EReal)
    (hwb : ∀ (a : Fin 128) (q : Fin 320), wb (ix2 a q) = w ⟨a.val % 32, Nat.mod_lt _ (by omega)⟩ ⟨a.val / 32, by omega⟩ (chan q)
      * if (⟨a.val % 32, Nat.mod_lt _ (by omega)⟩ : Fin 32) = feat q then 1 else 0)
    (hme : ∀ (d : Fin 32) (q : Fin 320), me (ix2 d q) = if d = feat q then 1 else 0)
    (b : Fin 32 → Fin 10 → EReal) (hbp : ∀ q : Fin 320, bp (ix2 0 q) = b (feat q) (chan q))
    (r : Fin 2048) (q : Fin 320) :
    k0_pay6 (F := Ideal) x p k wb bp me (ix2 r q)
      = rowIn (fun d => x (ix2 r d)) (fun d => p (ix2 r ⟨d.val, by omega⟩)) (fun d => p (ix2 r ⟨32 + d.val, by omega⟩))
          (fun d => k (ix2 r d)) w b q := by
  have hk : ∑ d : Fin 32, k (ix2 r d) * me (ix2 d q) = k (ix2 r (feat q)) := by
    have h := sum_unit (fun d => k (ix2 r d)) (fun _ => 1) (feat q)
    simp only [one_mul, mul_one] at h
    rw [← h]
    exact Finset.sum_congr rfl fun d _ => by rw [hme]
  pointwise [k0_pay6, k0_pay2, k0_pay3]
  rw [sum_quarters, hk, hbp]
  have hq (f : Fin 4) (v : Fin 32 → EReal) (i : Fin 32 → Fin 128) (hi : ∀ j, (i j).val = 32 * f.val + j.val) :
      ∑ j : Fin 32, v j * wb (ix2 (i j) q) = v (feat q) * w (feat q) f (chan q) := by
    rw [← sum_unit v (fun j => w j f (chan q)) (feat q)]
    refine Finset.sum_congr rfl fun j _ => ?_
    have e1 : (⟨(i j).val % 32, Nat.mod_lt _ (by omega)⟩ : Fin 32) = j :=
      Fin.ext (show (i j).val % 32 = j.val by rw [hi]; omega)
    have e2 : (⟨(i j).val / 32, by omega⟩ : Fin 4) = f := Fin.ext (show (i j).val / 32 = f.val by rw [hi]; omega)
    rw [hwb, e1, e2]
  unfold rowIn
  refine congrArg (fun s => max (s + b (feat q) (chan q)) 0 * k (ix2 r (feat q)))
    (congrArg₂ (· + ·) (congrArg₂ (· + ·) (congrArg₂ (· + ·) ?_ ?_) ?_) ?_)
  · refine (Finset.sum_congr rfl fun j _ => congrArg (· * _) ?_).trans
      (hq 0 (fun d => x (ix2 r d)) (fun j => ⟨j.val, by omega⟩) fun j => by simp)
    rw [dif_pos j.isLt]
  · refine (Finset.sum_congr rfl fun j _ => congrArg (· * _) ?_).trans
      (hq 1 (fun d => p (ix2 r ⟨d.val, by omega⟩)) (fun j => ⟨32 + j.val, by omega⟩) fun j => by simp)
    rw [dif_neg (show ¬ 32 + j.val < 32 by omega), dif_pos (show 32 + j.val - 32 < 32 by omega)]
    exact congrArg (fun d => p (ix2 r d)) (Fin.ext (show 32 + j.val - 32 = j.val by omega))
  · refine (Finset.sum_congr rfl fun j _ => congrArg (· * _) ?_).trans
      (hq 2 (fun d => p (ix2 r ⟨32 + d.val, by omega⟩)) (fun j => ⟨64 + j.val, by omega⟩) fun j => by simp)
    rw [dif_neg (show ¬ 64 + j.val < 32 by omega), dif_neg (show ¬ 64 + j.val - 32 < 32 by omega),
      dif_pos (show 64 + j.val - 32 - 32 < 32 by omega)]
    exact congrArg (fun d => p (ix2 r d)) (Fin.ext (show 32 + (64 + j.val - 32 - 32) = 32 + j.val by omega))
  · refine (Finset.sum_congr rfl fun j _ => congrArg (· * _) ?_).trans
      (hq 3 (fun d => rowErr (x (ix2 r d)) (p (ix2 r ⟨d.val, by omega⟩)) (p (ix2 r ⟨32 + d.val, by omega⟩)))
        (fun j => ⟨96 + j.val, by omega⟩) fun j => by simp)
    rw [dif_neg (show ¬ 96 + j.val < 32 by omega), dif_neg (show ¬ 96 + j.val - 32 < 32 by omega),
      dif_neg (show ¬ 96 + j.val - 32 - 32 < 32 by omega), ← pay4_apply]
    exact congrArg (fun d => k0_pay4 (F := Ideal) x p (ix2 r d)) (Fin.ext (show 96 + j.val - 32 - 32 - 32 = j.val by omega))

end Cert.ObsUpdate

end
-- ==== Proof.Prefix.lean ====
/-
The arrays the host prepares before the kernel call, read at an index: the block-diagonal weights, the reshaped biases,
the repeated unit matrix and the transposed weight matrices.
-/
module

public import proofs.«01_k».proof.Proof.Row
public import proofs.«01_k».proof.Proof.Gen.KernelIdeal.Frame
public import Idealize.ShloMosaic.Lib.StableHlo.Run

@[expose] public section

noncomputable section

namespace Cert.ObsUpdate

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The preparation weights the program was given: feature, reading, channel. -/
abbrev argW (d : Fin 32) (f : Fin 4) (p : Fin 10) : EReal :=
  (m (c.tc.loc main_arg5) : FVec Ideal S32x4x10 .f32) (ix3 d f p)

/-- An entry of the unit matrix: the comparison of the two coordinates, as a number. -/
theorem unit_entry (a b : Fin 32) :
    (FloatOps.uitofp (F := Ideal) .f32 (IntOp.cmpi .eq (IntOp.addi (BitVec.ofNat 32 a.val) 0#32) (BitVec.ofNat 32 b.val)) : EReal)
      = if a = b then 1 else 0 := by
  have h : IntOp.cmpi .eq (IntOp.addi (BitVec.ofNat 32 a.val) 0#32) (BitVec.ofNat 32 b.val) = if a = b then 1#1 else 0#1 := by
    revert a b; decide +kernel
  rw [h]
  by_cases e : a = b
  · rw [if_pos e, if_pos e]; simp [FloatOps.uitofp]
  · rw [if_neg e, if_neg e]; simp [FloatOps.uitofp]

theorem weights_ih (q : Fin 320) (k : Fin 192) :
    (V m c main_v16 : FVec Ideal S320x192 .f32) (ix2 q k) = (m (c.tc.loc main_arg7) : FVec Ideal S192x320 .f32) (ix2 k q) := by
  unfold V hostOps0
  after_results_simp
  pointwise

theorem weights_hh (q : Fin 64) (k : Fin 192) :
    (V m c main_v17 : FVec Ideal S64x192 .f32) (ix2 q k) = (m (c.tc.loc main_arg8) : FVec Ideal S192x64 .f32) (ix2 k q) := by
  unfold V hostOps0
  after_results_simp
  pointwise

theorem bias_ih (k : Fin 192) :
    (V m c main_v18 : FVec Ideal S1x192 .f32) (ix2 0 k) = (m (c.tc.loc main_arg9) : FVec Ideal S192 .f32) (ix1 k) := by
  unfold V hostOps0
  after_results_simp
  pointwise

theorem bias_hh (k : Fin 192) :
    (V m c main_v19 : FVec Ideal S1x192 .f32) (ix2 0 k) = (m (c.tc.loc main_arg10) : FVec Ideal S192 .f32) (ix1 k) := by
  unfold V hostOps0
  after_results_simp
  pointwise

theorem bias_prep (q : Fin 320) :
    (V m c main_v13 : FVec Ideal S1x320 .f32) (ix2 0 q)
      = (m (c.tc.loc main_arg6) : FVec Ideal S32x10 .f32) (ix2 (feat q) (chan q)) := by
  unfold V hostOps0
  after_results_simp
  pointwise

theorem unit_repeated (d : Fin 32) (q : Fin 320) :
    (V m c main_v15 : FVec Ideal S32x320 .f32) (ix2 d q) = (if d = feat q then 1 else 0 : EReal) := by
  unfold V hostOps0
  after_results_simp
  pointwise
  exact unit_entry d (feat q)

theorem weights_prep (a : Fin 128) (q : Fin 320) :
    (V m c main_v12 : FVec Ideal S128x320 .f32) (ix2 a q)
      = argW m c ⟨a.val % 32, Nat.mod_lt _ (by omega)⟩ ⟨a.val / 32, by omega⟩ (chan q)
        * if (⟨a.val % 32, Nat.mod_lt _ (by omega)⟩ : Fin 32) = feat q then 1 else 0 := by
  unfold V hostOps0
  after_results_simp
  pointwise
  exact congrArg _ (unit_entry ⟨a.val % 32, Nat.mod_lt _ (by omega)⟩ (feat q))

end Cert.ObsUpdate

end
-- ==== Proof.KernelValue.lean ====
/-
The kernel's final arrays: the new table and the losses, as functions of the argument arrays.
-/
module

public import proofs.«01_k».proof.Proof.Launch
public import proofs.«01_k».proof.Proof.Payload
public import proofs.«01_k».proof.Proof.Prefix
public import Idealize.ShloMosaic.Lib.Pipeline.ValueKit.Geometry

@[expose] public section

set_option maxRecDepth 16384

noncomputable section

namespace Cert.ObsUpdate

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

/-! ## The argument arrays -/

abbrev argH : FVec Ideal S1000000x64 .f32 := m (c.tc.loc main_arg0)
abbrev argP : FVec Ideal S16384x64 .f32 := m (c.tc.loc main_arg1)
abbrev argX : FVec Ideal S16384x32 .f32 := m (c.tc.loc main_arg2)
abbrev argK : FVec Ideal S16384x32 .f32 := m (c.tc.loc main_arg3)
abbrev argWp : FVec Ideal S32x4x10 .f32 := m (c.tc.loc main_arg5)
abbrev argBp : FVec Ideal S32x10 .f32 := m (c.tc.loc main_arg6)
abbrev argWi : FVec Ideal S192x320 .f32 := m (c.tc.loc main_arg7)
abbrev argWh : FVec Ideal S192x64 .f32 := m (c.tc.loc main_arg8)
abbrev argBi : FVec Ideal S192 .f32 := m (c.tc.loc main_arg9)
abbrev argBh : FVec Ideal S192 .f32 := m (c.tc.loc main_arg10)

/-! ## The blocks at an index -/

theorem index_0 : ∀ t : Fin cfg0.N, win0_0.index t = ![t.val, 0] :=
  (by decide +kernel : ∀ t : Fin grid0.N, win0_0.index t = ![t.val, 0])
theorem index_11 : ∀ t : Fin cfg0.N, win0_11.index t = ![t.val, 0] :=
  (by decide +kernel : ∀ t : Fin grid0.N, win0_11.index t = ![t.val, 0])
theorem index_1 : ∀ t : Fin cfg0.N, win0_1.index t = ![min t.val 7, 0] :=
  (by decide +kernel : ∀ t : Fin grid0.N, win0_1.index t = ![min t.val 7, 0])
theorem index_2 : ∀ t : Fin cfg0.N, win0_2.index t = ![min t.val 7, 0] :=
  (by decide +kernel : ∀ t : Fin grid0.N, win0_2.index t = ![min t.val 7, 0])
theorem index_3 : ∀ t : Fin cfg0.N, win0_3.index t = ![min t.val 7, 0] :=
  (by decide +kernel : ∀ t : Fin grid0.N, win0_3.index t = ![min t.val 7, 0])
theorem index_12 : ∀ t : Fin cfg0.N, win0_12.index t = ![min t.val 7, 0] :=
  (by decide +kernel : ∀ t : Fin grid0.N, win0_12.index t = ![min t.val 7, 0])
theorem index_4 (t : Fin cfg0.N) : win0_4.index t = ![0, 0] := rfl
theorem index_5 (t : Fin cfg0.N) : win0_5.index t = ![0, 0] := rfl
theorem index_6 (t : Fin cfg0.N) : win0_6.index t = ![0, 0] := rfl
theorem index_7 (t : Fin cfg0.N) : win0_7.index t = ![0, 0] := rfl
theorem index_8 (t : Fin cfg0.N) : win0_8.index t = ![0, 0] := rfl
theorem index_9 (t : Fin cfg0.N) : win0_9.index t = ![0, 0] := rfl
theorem index_10 (t : Fin cfg0.N) : win0_10.index t = ![0, 0] := rfl

/-- The rows of block `t` inside the table, and their columns. -/
theorem rows_0 : ∀ t : Fin cfg0.N, win0_0.xsize (grid0.coords t) (0 : Fin 2) = min 2048 (1000000 - t.val * 2048) :=
  (by decide +kernel : ∀ t : Fin grid0.N, win0_0.xsize (grid0.coords t) (0 : Fin 2) = min 2048 (1000000 - t.val * 2048))
theorem cols_0 : ∀ t : Fin cfg0.N, win0_0.xsize (grid0.coords t) (1 : Fin 2) = 64 :=
  (by decide +kernel : ∀ t : Fin grid0.N, win0_0.xsize (grid0.coords t) (1 : Fin 2) = 64)
theorem rows_11 : ∀ t : Fin cfg0.N, win0_11.xsize (grid0.coords t) (0 : Fin 2) = min 2048 (1000000 - t.val * 2048) :=
  (by decide +kernel : ∀ t : Fin grid0.N, win0_11.xsize (grid0.coords t) (0 : Fin 2) = min 2048 (1000000 - t.val * 2048))
theorem cols_11 : ∀ t : Fin cfg0.N, win0_11.xsize (grid0.coords t) (1 : Fin 2) = 64 :=
  (by decide +kernel : ∀ t : Fin grid0.N, win0_11.xsize (grid0.coords t) (1 : Fin 2) = 64)

/-- Row `r` of block `t` among the observations. -/
abbrev obsRow (t : Fin cfg0.N) (r : Fin 2048) : Fin 16384 := ⟨min t.val 7 * 2048 + r.val, by omega⟩

theorem iblk_1_apply (t : Fin cfg0.N) (r : Fin 2048) (l : Fin 64) :
    (iblk m c 1 t : FVec Ideal S2048x64 .f32) (ix2 r l) = argP m c (ix2 (obsRow t r) l) := by
  refine Eq.trans (b := V m c main_arg1 ((win0_1.blk t).view.emb (ix2 r l))) rfl ?_
  rw [V_main_arg1]
  refine congrArg (argP m c) ?_
  blk_ext [index_1]

theorem iblk_2_apply (t : Fin cfg0.N) (r : Fin 2048) (l : Fin 32) :
    (iblk m c 2 t : FVec Ideal S2048x32 .f32) (ix2 r l) = argX m c (ix2 (obsRow t r) l) := by
  refine Eq.trans (b := V m c main_arg2 ((win0_2.blk t).view.emb (ix2 r l))) rfl ?_
  rw [V_main_arg2]
  refine congrArg (argX m c) ?_
  blk_ext [index_2]

theorem iblk_3_apply (t : Fin cfg0.N) (r : Fin 2048) (l : Fin 32) :
    (iblk m c 3 t : FVec Ideal S2048x32 .f32) (ix2 r l) = argK m c (ix2 (obsRow t r) l) := by
  refine Eq.trans (b := V m c main_arg3 ((win0_3.blk t).view.emb (ix2 r l))) rfl ?_
  rw [V_main_arg3]
  refine congrArg (argK m c) ?_
  blk_ext [index_3]

theorem iblk_4_apply (t : Fin cfg0.N) (r : Fin 128) (l : Fin 320) :
    (iblk m c 4 t : FVec Ideal S128x320 .f32) (ix2 r l) = (V m c main_v12 : FVec Ideal S128x320 .f32) (ix2 r l) := by
  refine congrArg (V m c main_v12 : FVec Ideal S128x320 .f32) (a₁ := (win0_4.blk t).view.emb (ix2 r l)) ?_
  blk_ext [index_4]

theorem iblk_5_apply (t : Fin cfg0.N) (r : Fin 1) (l : Fin 320) :
    (iblk m c 5 t : FVec Ideal S1x320 .f32) (ix2 r l) = (V m c main_v13 : FVec Ideal S1x320 .f32) (ix2 r l) := by
  refine congrArg (V m c main_v13 : FVec Ideal S1x320 .f32) (a₁ := (win0_5.blk t).view.emb (ix2 r l)) ?_
  blk_ext [index_5]

theorem iblk_6_apply (t : Fin cfg0.N) (r : Fin 32) (l : Fin 320) :
    (iblk m c 6 t : FVec Ideal S32x320 .f32) (ix2 r l) = (V m c main_v15 : FVec Ideal S32x320 .f32) (ix2 r l) := by
  refine congrArg (V m c main_v15 : FVec Ideal S32x320 .f32) (a₁ := (win0_6.blk t).view.emb (ix2 r l)) ?_
  blk_ext [index_6]

theorem iblk_7_apply (t : Fin cfg0.N) (r : Fin 320) (l : Fin 192) :
    (iblk m c 7 t : FVec Ideal S320x192 .f32) (ix2 r l) = (V m c main_v16 : FVec Ideal S320x192 .f32) (ix2 r l) := by
  refine congrArg (V m c main_v16 : FVec Ideal S320x192 .f32) (a₁ := (win0_7.blk t).view.emb (ix2 r l)) ?_
  blk_ext [index_7]

theorem iblk_8_apply (t : Fin cfg0.N) (r : Fin 64) (l : Fin 192) :
    (iblk m c 8 t : FVec Ideal S64x192 .f32) (ix2 r l) = (V m c main_v17 : FVec Ideal S64x192 .f32) (ix2 r l) := by
  refine congrArg (V m c main_v17 : FVec Ideal S64x192 .f32) (a₁ := (win0_8.blk t).view.emb (ix2 r l)) ?_
  blk_ext [index_8]

theorem iblk_9_apply (t : Fin cfg0.N) (r : Fin 1) (l : Fin 192) :
    (iblk m c 9 t : FVec Ideal S1x192 .f32) (ix2 r l) = (V m c main_v18 : FVec Ideal S1x192 .f32) (ix2 r l) := by
  refine congrArg (V m c main_v18 : FVec Ideal S1x192 .f32) (a₁ := (win0_9.blk t).view.emb (ix2 r l)) ?_
  blk_ext [index_9]

theorem iblk_10_apply (t : Fin cfg0.N) (r : Fin 1) (l : Fin 192) :
    (iblk m c 10 t : FVec Ideal S1x192 .f32) (ix2 r l) = (V m c main_v19 : FVec Ideal S1x192 .f32) (ix2 r l) := by
  refine congrArg (V m c main_v19 : FVec Ideal S1x192 .f32) (a₁ := (win0_10.blk t).view.emb (ix2 r l)) ?_
  blk_ext [index_10]

/-- The state block holds the table's rows, where it lies inside the table. -/
theorem stateBlk_apply (t : Fin cfg0.N) (r : Fin 2048) (l : Fin 64) (e : t.val * 2048 + r.val < 1000000) :
    stateBlk m c t (ix2 r l) = argH m c (ix2 ⟨t.val * 2048 + r.val, e⟩ l) := by
  have hm : win0_0.moved (grid0.coords t) (ix2 r l) = true := by
    rw [Window.moved_iff]
    exact fun
      | ⟨0, _⟩ => lt_of_lt_of_eq (show r.val < min 2048 (1000000 - t.val * 2048) by omega) (rows_0 t).symm
      | ⟨1, _⟩ => lt_of_lt_of_eq l.isLt (cols_0 t).symm
  unfold stateBlk Window.fill
  rw [dif_pos hm]
  refine Eq.trans (b := V m c main_arg0 ((win0_0.blk t).view.emb _)) rfl ?_
  rw [V_main_arg0]
  refine congrArg (argH m c) ?_
  blk_ext [index_0]

/-! ## The stored blocks at an index -/

/-- The updated block, at a point that updates. -/
theorem updBlk_apply (t : Fin cfg0.N) (h : t.val < 8) (r : Fin 2048) (l : Fin 64) :
    updBlk m c t (ix2 r l) = newRow (argH m c) (argP m c) (argX m c) (argK m c) (argWp m c) (argBp m c) (argWi m c)
      (argWh m c) (argBi m c) (argBh m c) ⟨t.val * 2048 + r.val, by omega⟩ l := by
  have er : obsRow t r = ⟨t.val * 2048 + r.val, by omega⟩ :=
    Fin.ext (show min t.val 7 * 2048 + r.val = t.val * 2048 + r.val by rw [Nat.min_eq_left (by omega)])
  have hu : ∀ q : Fin 320, k0_pay6 (F := Ideal) (iblk m c 2 t) (iblk m c 1 t) (iblk m c 3 t) (iblk m c 4 t) (iblk m c 5 t)
      (iblk m c 6 t) (ix2 r q) = prepared (argP m c) (argX m c) (argK m c) (argWp m c) (argBp m c) (obsRow t r) q := fun q => by
    refine (pay6_apply _ _ _ _ _ _ (argW m c) (fun a q => ?_) (fun d q => ?_)
      (fun d a => argBp m c (ix2 d a)) (fun q => ?_) r q).trans ?_
    · exact (iblk_4_apply m c t a q).trans (weights_prep m c a q)
    · exact (iblk_6_apply m c t d q).trans (unit_repeated m c d q)
    · exact (iblk_5_apply m c t 0 q).trans (bias_prep m c q)
    · simp only [iblk_1_apply, iblk_2_apply, iblk_3_apply]
      rfl
  have hs : ∀ l : Fin 64, stateBlk m c t (ix2 r l) = argH m c (ix2 ⟨t.val * 2048 + r.val, by omega⟩ l) :=
    fun l => stateBlk_apply m c t r l (by omega)
  have h7 : ∀ (q : Fin 320) (k : Fin 192), k0_pay7 (F := Ideal) (iblk m c 7 t) (ix2 q k) = argWi m c (ix2 k q) :=
    fun q k => Eq.trans (by pointwise [k0_pay7]) ((iblk_7_apply m c t q k).trans (weights_ih m c q k))
  have h8 : ∀ (q : Fin 64) (k : Fin 192), (iblk m c 8 t : FVec Ideal S64x192 .f32) (ix2 q k) = argWh m c (ix2 k q) :=
    fun q k => (iblk_8_apply m c t q k).trans (weights_hh m c q k)
  have h9 : ∀ k : Fin 192, (iblk m c 9 t : FVec Ideal S1x192 .f32) (ix2 0 k) = argBi m c (ix1 k) :=
    fun k => (iblk_9_apply m c t 0 k).trans (bias_ih m c k)
  have h10 : ∀ k : Fin 192, (iblk m c 10 t : FVec Ideal S1x192 .f32) (ix2 0 k) = argBh m c (ix1 k) :=
    fun k => (iblk_10_apply m c t 0 k).trans (bias_hh m c k)
  unfold updBlk
  refine (pay1_apply _ _ _ _ _ _ r l).trans ?_
  unfold newRow
  rw [← er]
  refine rowCell_congr (fun g => rowGates_congr hu (fun g q => h7 q g) h9 g)
    (fun g => rowGates_congr (fun q => (hs q).trans ?_) (fun g q => h8 q g) h10 g) (fun q => (hs q).trans ?_) l
  all_goals exact congrArg (fun a => argH m c (ix2 a q)) (Fin.ext (congrArg Fin.val er).symm)

theorem lossBlk_apply (t : Fin cfg0.N) (r : Fin 2048) (l : Fin 32) :
    lossBlk m c t (ix2 r l) = losses (argX m c) (argK m c) (argP m c) (ix2 (obsRow t r) l) := by
  unfold lossBlk
  refine (pay5_apply _ _ _ r l).trans ?_
  simp only [iblk_1_apply, iblk_2_apply, iblk_3_apply]
  rfl

/-! ## The final arrays -/

theorem final_11 : (dats m 0 c).arrAt 11 cfg0.N = newTable (argH m c) (argP m c) (argX m c) (argK m c) (argWp m c)
    (argBp m c) (argWi m c) (argWh m c) (argBi m c) (argBh m c) := by
  refine (dats m 0 c).arrAt_eq_of_covers 11 _ (by decide +kernel) fun t hf y => ?_
  blk_simp
  rw [after_11]
  have hr : (y (0 : Fin 2)).val < min 2048 (1000000 - t.val * 2048) := lt_of_lt_of_eq (y (0 : Fin 2)).isLt (rows_11 t)
  have hl : (y (1 : Fin 2)).val < 64 := lt_of_lt_of_eq (y (1 : Fin 2)).isLt (cols_11 t)
  have hx : (cfg0.win 11).xinj (cfg0.grid.coords t) y
      = ix2 (⟨(y (0 : Fin 2)).val, by omega⟩ : Fin 2048) (⟨(y (1 : Fin 2)).val, hl⟩ : Fin 64) := by
    funext a
    match a with
    | ⟨0, _⟩ => rfl
    | ⟨1, _⟩ => rfl
  have he : (win0_11.blk t).view.emb y = ix2 (⟨t.val * 2048 + (y (0 : Fin 2)).val, by omega⟩ : Fin 1000000)
      (⟨(y (1 : Fin 2)).val, hl⟩ : Fin 64) := by
    blk_ext [index_11]
  rw [hx, he]
  by_cases h : t.val < 8
  · rw [if_pos h, newTable_new _ _ _ _ _ _ _ _ _ _ _ _ (show t.val * 2048 + (y (0 : Fin 2)).val < 16384 by omega)]
    exact updBlk_apply m c t h _ _
  · rw [if_neg h, newTable_kept _ _ _ _ _ _ _ _ _ _ _ _ (show ¬ t.val * 2048 + (y (0 : Fin 2)).val < 16384 by omega)]
    exact stateBlk_apply m c t _ _ (show t.val * 2048 + (y (0 : Fin 2)).val < 1000000 by omega)

theorem final_12 : (dats m 0 c).arrAt 12 cfg0.N = losses (argX m c) (argK m c) (argP m c) := by
  refine (dats m 0 c).arrAt_eq_of_covers 12 _ (by decide +kernel) fun t hf y => ?_
  blk_simp
  rw [after_12]
  have hy : y = ix2 (y (0 : Fin 2) : Fin 2048) (y (1 : Fin 2) : Fin 32) := eq_ix2 (n0 := 2048) (n1 := 32) y
  have he : (win0_12.blk t).view.emb y = ix2 (obsRow (pt (min t.val 7) (by omega)) (y (0 : Fin 2))) (y (1 : Fin 2) : Fin 32) := by
    blk_ext [index_12]
  rw [he]
  exact (congrArg (lossBlk m c (pt (min t.val 7) (by omega))) hy).trans (lossBlk_apply m c _ _ _)

/-- Every run ends with the new table and the losses in the kernel's two outputs. -/
theorem run_values : θ_run defs (onTc (τ := τ) (main (F := Ideal))) (s₀ m ρ) (fun r => ∀ c : Dev nD,
      r.2.mem ((c.tc : Thread nD τ).loc main_v20_0) = newTable (argH m c) (argP m c) (argX m c) (argK m c) (argWp m c)
        (argBp m c) (argWi m c) (argWh m c) (argBi m c) (argBh m c)
      ∧ r.2.mem ((c.tc : Thread nD τ).loc main_v20_1) = losses (argX m c) (argK m c) (argP m c)) :=
  (θ_run defs _ _).mono (fun r h c => ⟨((h.1 c).1 11).trans (final_11 m c), ((h.1 c).1 12).trans (final_12 m c)⟩)
    (run_quiescent m ρ)

end Cert.ObsUpdate

end
-- ==== Proof.RefValue.lean ====
/-
The reference's results read at an index: its stages one by one, each against the row arithmetic of `Row`.
-/
module

public import proofs.«01_k».proof.Proof.Row
public import proofs.«01_k».proof.Proof.Gen.ReferenceIdeal.Run
public import Idealize.ShloMosaic.Lib.Routing.Ops
public import Idealize.ShloMosaic.Lib.Routing.OpsPair
public import Idealize.ShloMosaic.Lib.Routing.OpsSet

@[expose] public section

noncomputable section

namespace Cert.ObsUpdate.Ref

open Cert.ReferenceIdeal Cert.ReferenceIdeal.Gen
open Idealize.ShloMosaic Idealize.ShloMosaic.TcCoe

/-! ## The stages -/

/-- The standardised errors. -/
def errs (x : FVec Ideal S16384x32 .f32) (p : FVec Ideal S16384x64 .f32) : FVec Ideal S16384x32 .f32 :=
  Host.divf (subf x (extractStridedSlice S16384x32 ![0, 0] p slices_S16384x64_S16384x32_0_0))
    (Host.exp (mulf (broadcastInDim S16384x32 ![] bcast_S_S16384x32 (constant S_ .f32 0x3F000000#32))
      (extractStridedSlice S16384x32 ![0, 32] p slices_S16384x64_S16384x32_0_32)))

/-- The four readings side by side. -/
def readings (x : FVec Ideal S16384x32 .f32) (p : FVec Ideal S16384x64 .f32) : FVec Ideal S16384x32x4 .f32 :=
  concatenate S16384x32x4 2
    [⟨S16384x32x1, broadcastInDim S16384x32x1 ![0, 1] bcast_S16384x32_S16384x32x1_0_1 x⟩,
      ⟨S16384x32x1, broadcastInDim S16384x32x1 ![0, 1] bcast_S16384x32_S16384x32x1_0_1
        (extractStridedSlice S16384x32 ![0, 0] p slices_S16384x64_S16384x32_0_0)⟩,
      ⟨S16384x32x1, broadcastInDim S16384x32x1 ![0, 1] bcast_S16384x32_S16384x32x1_0_1
        (extractStridedSlice S16384x32 ![0, 32] p slices_S16384x64_S16384x32_0_32)⟩,
      ⟨S16384x32x1, broadcastInDim S16384x32x1 ![0, 1] bcast_S16384x32_S16384x32x1_0_1 (errs x p)⟩]
    concatenates_S16384x32x1_S16384x32x1_S16384x32x1_S16384x32x1_S16384x32x4_d2

/-- The prepared inputs of the cell. -/
def inputs (a : FVec Ideal S16384x32x4 .f32) (k : FVec Ideal S16384x32 .f32) (w : FVec Ideal S32x4x10 .f32)
    (b : FVec Ideal S32x10 .f32) : FVec Ideal S16384x320 .f32 :=
  shapeCast S16384x320 (transpose S16384x32x10 [1, 2, 0]
    (mulf (transpose S10x16384x32 [2, 0, 1]
        (maximumf
          (addf (transpose S16384x32x10 [2, 0, 1] (Host.dotGeneral dot_S32x4x10_S16384x32x4_S32x10x16384_1_2_2_0_0_1 none w a)
              transposes_S32x10x16384_S16384x32x10_2_0_1)
            (broadcastInDim S16384x32x10 ![0, 1, 2] bcast_S1x32x10_S16384x32x10_0_1_2
              (broadcastInDim S1x32x10 ![1, 2] bcast_S32x10_S1x32x10_1_2 b)))
          (broadcastInDim S16384x32x10 ![] bcast_S_S16384x32x10 (constant S_ .f32 0x00000000#32)))
        transposes_S16384x32x10_S10x16384x32_2_0_1)
      (broadcastInDim S10x16384x32 ![0, 1, 2] bcast_S1x16384x32_S10x16384x32_0_1_2
        (broadcastInDim S1x16384x32 ![1, 2] bcast_S16384x32_S1x16384x32_1_2 k)))
    transposes_S10x16384x32_S16384x32x10_1_2_0) shapeCasts_S16384x32x10_S16384x320

/-- The row numbers, a negative one counted from the end. -/
def rowNos (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1000000#32))) i)

/-- The rows of the table they name. -/
def taken (h : FVec Ideal S1000000x64 .f32) (n : IVec S16384x1 32) : FVec Ideal S16384x64 .f32 :=
  select (broadcastInDim S16384x64 ![0] bcast_S16384_S16384x64_0
      (Host.reduce IntOp.andi
        (andi (cmpi .sge n (broadcastInDim S16384x1 ![] bcast_S_S16384x1 (constantI S_ 32 0#32)))
          (cmpi .sle n (broadcastInDim S16384x1 ![0, 1] bcast_S1x1_S16384x1_0_1
            (broadcastInDim S1x1 ![1] bcast_S1_S1x1_1 (constantI S1 32 999999#32)))))
        (constantI S_ 1 1#1) reducesTo_S16384x1_S16384_d1 h_S_))
    (Host.gather gather_S1000000x64_S16384x1_S16384x64_1_0_n_n_0_1_164 h n)
    (broadcastInDim S16384x64 ![] bcast_S_S16384x64 (constant S_ .f32 0x7FC00000#32))

/-- The gate inputs from the prepared inputs, -/
def gatesI (u : FVec Ideal S16384x320 .f32) (w : FVec Ideal S192x320 .f32) (b : FVec Ideal S192 .f32) :
    FVec Ideal S16384x192 .f32 :=
  addf (Host.dotGeneral dot_S16384x320_S320x192_S16384x192_1_0_0_1_n_n none u
      (transpose S320x192 [1, 0] w transposes_S192x320_S320x192_1_0))
    (broadcastInDim S16384x192 ![0, 1] bcast_S1x192_S16384x192_0_1 (broadcastInDim S1x192 ![1] bcast_S192_S1x192_1 b))

/-- and from the old states. -/
def gatesH (u : FVec Ideal S16384x64 .f32) (w : FVec Ideal S192x64 .f32) (b : FVec Ideal S192 .f32) :
    FVec Ideal S16384x192 .f32 :=
  addf (Host.dotGeneral dot_S16384x64_S64x192_S16384x192_1_0_0_1_n_n none u
      (transpose S64x192 [1, 0] w transposes_S192x64_S64x192_1_0))
    (broadcastInDim S16384x192 ![0, 1] bcast_S1x192_S16384x192_0_1 (broadcastInDim S1x192 ![1] bcast_S192_S1x192_1 b))

/-- The logistic function, written out. -/
def sigmoid (a : FVec Ideal S16384x64 .f32) : FVec Ideal S16384x64 .f32 :=
  Host.divf (broadcastInDim S16384x64 ![] bcast_S_S16384x64 (constant S_ .f32 0x3F800000#32))
    (addf (broadcastInDim S16384x64 ![] bcast_S_S16384x64 (constant S_ .f32 0x3F800000#32)) (Host.exp (Host.negf a)))

/-- The new states. -/
def cell (gi gh : FVec Ideal S16384x192 .f32) (h : FVec Ideal S16384x64 .f32) : FVec Ideal S16384x64 .f32 :=
  addf
    (mulf
      (subf (broadcastInDim S16384x64 ![] bcast_S_S16384x64 (constant S_ .f32 0x3F800000#32))
        (sigmoid (addf (extractStridedSlice S16384x64 ![0, 64] gi slices_S16384x192_S16384x64_0_64)
          (extractStridedSlice S16384x64 ![0, 64] gh slices_S16384x192_S16384x64_0_64))))
      (Host.tanh (addf (extractStridedSlice S16384x64 ![0, 128] gi slices_S16384x192_S16384x64_0_128)
        (mulf
          (sigmoid (addf (extractStridedSlice S16384x64 ![0, 0] gi slices_S16384x192_S16384x64_0_0)
            (extractStridedSlice S16384x64 ![0, 0] gh slices_S16384x192_S16384x64_0_0)))
          (extractStridedSlice S16384x64 ![0, 128] gh slices_S16384x192_S16384x64_0_128)))))
    (mulf
      (sigmoid (addf (extractStridedSlice S16384x64 ![0, 64] gi slices_S16384x192_S16384x64_0_64)
        (extractStridedSlice S16384x64 ![0, 64] gh slices_S16384x192_S16384x64_0_64)))
      h)

/-- The table with the new states written at their rows. -/
def table (h : FVec Ideal S1000000x64 .f32) (n : IVec S16384x1 32) (u : FVec Ideal S16384x64 .f32) :
    FVec Ideal S1000000x64 .f32 :=
  Host.scatter scatter_S1000000x64_S16384x1_S16384x64_1_0_0_1 (fun _ b => b) h n u

/-! ## The stages at an index -/

theorem half : Ideal.ofBits .f32 0x3F000000#32 = ((1 / 2 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

/-- At a log-variance that is not minus infinity, dividing by the standard deviation is multiplying by its inverse. -/
theorem err_eq (x mu lv : EReal) (h : ⊥ < lv) :
    Ideal.div (x - mu) (Ideal.exp (Ideal.ofBits .f32 0x3F000000#32 * lv)) = rowErr x mu lv := by
  unfold rowErr
  rw [half, minus_half]
  induction lv using EReal.rec with
  | bot => exact absurd h (lt_irrefl _)
  | coe v =>
    rw [← EReal.coe_mul, ← EReal.coe_mul, Ideal.exp_coe, Ideal.exp_coe, Ideal.div_coe (Real.exp_ne_zero _),
      show -(1 / 2 : ℝ) * v = -(1 / 2 * v) by ring, Real.exp_neg, one_div]
  | top =>
    rw [EReal.coe_mul_top_of_pos (by norm_num), EReal.coe_mul_top_of_neg (by norm_num), Ideal.exp_top, Ideal.exp_bot, mul_zero,
      Ideal.div, if_neg EReal.top_ne_zero, EReal.inv_top, mul_zero]

theorem errs_apply (x : FVec Ideal S16384x32 .f32) (p : FVec Ideal S16384x64 .f32) (r : Fin 16384) (d : Fin 32)
    (h : (⊥ : EReal) < p (ix2 r ⟨32 + d.val, by omega⟩)) :
    errs x p (ix2 r d) = rowErr (x (ix2 r d)) (p (ix2 r ⟨d.val, by omega⟩)) (p (ix2 r ⟨32 + d.val, by omega⟩)) := by
  rw [← err_eq _ _ _ h]
  pointwise [errs]

theorem inputs_apply (x k : FVec Ideal S16384x32 .f32) (p : FVec Ideal S16384x64 .f32) (w : FVec Ideal S32x4x10 .f32)
    (b : FVec Ideal S32x10 .f32) (r : Fin 16384) (q : Fin 320)
    (h : ∀ d : Fin 32, (⊥ : EReal) < p (ix2 r ⟨32 + d.val, by omega⟩)) :
    inputs (readings x p) k w b (ix2 r q) = prepared p x k w b r q := by
  pointwise [inputs, readings]
  unfold prepared rowIn
  refine congrArg (fun s => max (s + b (ix2 (feat q) (chan q))) 0 * k (ix2 r (feat q))) ?_
  rw [Fin.sum_univ_four]
  refine congrArg₂ (· + ·) (congrArg₂ (· + ·) (congrArg₂ (· + ·) (mul_comm _ _) (mul_comm _ _)) (mul_comm _ _))
    ((mul_comm _ _).trans (congrArg (· * _) (errs_apply x p r (feat q) (h (feat q)))))

theorem toNat_small (r : Fin 16384) : (BitVec.ofNat 32 r.val).toNat < 2 ^ 31 := by
  rw [BitVec.toNat_ofNat]
  omega

theorem toInt_small (r : Fin 16384) : (BitVec.ofNat 32 r.val).toInt = r.val :=
  StableHlo.Predicate.toInt_ofNat_small _ (by omega)

theorem rowNos_apply (i : IVec S16384 32) (r : Fin 16384) (h : i (ix1 r) = BitVec.ofNat 32 r.val) :
    rowNos i (ix2 r 0) = BitVec.ofNat 32 r.val := by
  pointwise [rowNos]
  rw [h]
  exact Routing.wrap_of_lt _ _ (toNat_small r)

theorem taken_apply (h : FVec Ideal S1000000x64 .f32) (n : IVec S16384x1 32) (r : Fin 16384) (l : Fin 64)
    (hn : n (ix2 r 0) = BitVec.ofNat 32 r.val) : taken h n (ix2 r l) = h (ix2 ⟨r.val, by omega⟩ l) := by
  pointwise [taken]
  rw [Finset.univ_unique, Finset.fold_singleton, show (default : Fin 1) = 0 from rfl, hn,
    WordCmp.cmpi_sge_eq, WordCmp.cmpi_sle_eq, toInt_small, decide_eq_true (show (0#32).toInt ≤ (r.val : ℤ) by simp),
    decide_eq_true (show (r.val : ℤ) ≤ (999999#32).toInt by simp; omega)]
  refine Eq.trans ?_ (Routing.gather_row (nb := 1000000) (B := 64) (n := 16384)
    gather_S1000000x64_S16384x1_S16384x64_1_0_n_n_0_1_164 rfl rfl rfl rfl rfl h n r l ⟨r.val, by omega⟩ hn (by norm_num))
  rfl

/-- Where the update at row `r`, column `l` lands: at row `r` of the table. -/
theorem lands (n : IVec S16384x1 32) (r : Fin 16384) (l : Fin 64) (hn : n (ix2 r 0) = BitVec.ofNat 32 r.val)
    (R : Fin 1000000) (L : Fin 64) :
    scatter_S1000000x64_S16384x1_S16384x64_1_0_0_1.resultIdx? (ix2 r l) n = some (ix2 R L) ↔ r.val = R.val ∧ l.val = L.val := by
  rw [Routing.resultIdx?_eq_some]
  have h0 : scatter_S1000000x64_S16384x1_S16384x64_1_0_0_1.start (ix2 r l) n (0 : Fin 2) = r.val := by
    rw [← toInt_small, ← hn]
    unfold ScatterDims.start
    rw [dif_pos (show (0 : Fin 2) ∈ scatter_S1000000x64_S16384x1_S16384x64_1_0_0_1.scatterDimsToOperandDims from
      List.mem_singleton.mpr rfl)]
    refine congrArg (fun i => (n i).toInt) (funext fun a => Fin.ext ?_)
    match a with
    | ⟨0, _⟩ => rfl
    | ⟨1, _⟩ => rfl
  have h1 : scatter_S1000000x64_S16384x1_S16384x64_1_0_0_1.start (ix2 r l) n (1 : Fin 2) = 0 := rfl
  have w0 : scatter_S1000000x64_S16384x1_S16384x64_1_0_0_1.window (ix2 r l) (0 : Fin 2) = 0 := rfl
  have w1 : scatter_S1000000x64_S16384x1_S16384x64_1_0_0_1.window (ix2 r l) (1 : Fin 2) = l.val := rfl
  constructor
  · intro h
    have e0 := h (0 : Fin 2)
    have e1 := h (1 : Fin 2)
    rw [h0, w0] at e0
    rw [h1, w1] at e1
    change (r.val : ℤ) + ((0 : ℕ) : ℤ) = (R.val : ℤ) at e0
    change (0 : ℤ) + (l.val : ℤ) = (L.val : ℤ) at e1
    omega
  · rintro ⟨e0, e1⟩ a
    match a with
    | ⟨0, _⟩ =>
      refine (congrArg₂ (fun (x : ℤ) (y : ℕ) => x + y) h0 w0).trans ?_
      show (r.val : ℤ) + ((0 : ℕ) : ℤ) = (R.val : ℤ)
      omega
    | ⟨1, _⟩ =>
      refine (congrArg₂ (fun (x : ℤ) (y : ℕ) => x + y) h1 w1).trans ?_
      show (0 : ℤ) + (l.val : ℤ) = (L.val : ℤ)
      omega

theorem table_new (h : FVec Ideal S1000000x64 .f32) (n : IVec S16384x1 32) (u : FVec Ideal S16384x64 .f32)
    (hn : ∀ r : Fin 16384, n (ix2 r 0) = BitVec.ofNat 32 r.val) (R : Fin 1000000) (L : Fin 64) (e : R.val < 16384) :
    table h n u (ix2 R L) = u (ix2 ⟨R.val, e⟩ L) := by
  refine Routing.scatter_set_hit _ h n u (ix2 R L) _ (fun k hk => ?_) (ix2 ⟨R.val, e⟩ L)
    ((lands n ⟨R.val, e⟩ L (hn _) R L).mpr ⟨rfl, rfl⟩)
  obtain ⟨r, l, rfl⟩ : ∃ (r : Fin 16384) (l : Fin 64), k = ix2 r l := ⟨k 0, k 1, eq_ix2 k⟩
  obtain ⟨e0, e1⟩ := (lands n r l (hn r) R L).mp hk
  rw [show r = ⟨R.val, e⟩ from Fin.ext e0, show l = L from Fin.ext e1]

theorem table_kept (h : FVec Ideal S1000000x64 .f32) (n : IVec S16384x1 32) (u : FVec Ideal S16384x64 .f32)
    (hn : ∀ r : Fin 16384, n (ix2 r 0) = BitVec.ofNat 32 r.val) (R : Fin 1000000) (L : Fin 64) (e : ¬ R.val < 16384) :
    table h n u (ix2 R L) = h (ix2 R L) := by
  refine Routing.scatter_set_miss _ h n u (ix2 R L) fun k hk => ?_
  obtain ⟨r, l, rfl⟩ : ∃ (r : Fin 16384) (l : Fin 64), k = ix2 r l := ⟨k 0, k 1, eq_ix2 k⟩
  exact e (((lands n r l (hn r) R L).mp hk).1 ▸ r.isLt)

theorem gatesI_apply (u : FVec Ideal S16384x320 .f32) (w : FVec Ideal S192x320 .f32) (b : FVec Ideal S192 .f32)
    (r : Fin 16384) (k : Fin 192) :
    gatesI u w b (ix2 r k) = rowGates (fun q : Fin 320 => u (ix2 r q)) (fun k q => w (ix2 k q)) (fun k => b (ix1 k)) k := by
  pointwise [gatesI]
  rfl

theorem gatesH_apply (u : FVec Ideal S16384x64 .f32) (w : FVec Ideal S192x64 .f32) (b : FVec Ideal S192 .f32)
    (r : Fin 16384) (k : Fin 192) :
    gatesH u w b (ix2 r k) = rowGates (fun q : Fin 64 => u (ix2 r q)) (fun k q => w (ix2 k q)) (fun k => b (ix1 k)) k := by
  pointwise [gatesH]
  rfl

theorem cell_apply (gi gh : FVec Ideal S16384x192 .f32) (h : FVec Ideal S16384x64 .f32) (r : Fin 16384) (k : Fin 64) :
    cell gi gh h (ix2 r k)
      = rowCell (fun k => gi (ix2 r k)) (fun k => gh (ix2 r k)) (fun k => h (ix2 r k)) k := by
  pointwise [cell, sigmoid]
  rfl

theorem result_eq (m : (ℓ : Loc nD τ sig) → Buf (Elt Ideal) ℓ) (c : Dev nD) :
    Value.res_main_v76 m c = table (m (c.tc.loc main_arg0)) (rowNos (m (c.tc.loc main_arg4)))
      (cell (gatesI (inputs (readings (m (c.tc.loc main_arg2)) (m (c.tc.loc main_arg1))) (m (c.tc.loc main_arg3))
          (m (c.tc.loc main_arg5)) (m (c.tc.loc main_arg6))) (m (c.tc.loc main_arg7)) (m (c.tc.loc main_arg9)))
        (gatesH (taken (m (c.tc.loc main_arg0)) (rowNos (m (c.tc.loc main_arg4)))) (m (c.tc.loc main_arg8)) (m (c.tc.loc main_arg10)))
        (taken (m (c.tc.loc main_arg0)) (rowNos (m (c.tc.loc main_arg4))))) := by
  unfold Value.res_main_v76
  rfl

/-! ## The results -/

section

variable (h : FVec Ideal S1000000x64 .f32) (p : FVec Ideal S16384x64 .f32) (x k : FVec Ideal S16384x32 .f32)
  (i : IVec S16384 32) (w : FVec Ideal S32x4x10 .f32) (b : FVec Ideal S32x10 .f32) (wi : FVec Ideal S192x320 .f32)
  (wh : FVec Ideal S192x64 .f32) (bi bh : FVec Ideal S192 .f32)

/-- With the rows named in order and no log-variance minus infinity, the reference's table is the new table, -/
theorem table_eq (hi : ∀ r : Fin 16384, i (ix1 r) = BitVec.ofNat 32 r.val)
    (hp : ∀ (r : Fin 16384) (d : Fin 32), (⊥ : EReal) < p (ix2 r ⟨32 + d.val, by omega⟩)) :
    table h (rowNos i) (cell (gatesI (inputs (readings x p) k w b) wi bi) (gatesH (taken h (rowNos i)) wh bh) (taken h (rowNos i)))
      = newTable h p x k w b wi wh bi bh := by
  have hn : ∀ r : Fin 16384, rowNos i (ix2 r 0) = BitVec.ofNat 32 r.val := fun r => rowNos_apply i r (hi r)
  funext j
  obtain ⟨R, L, rfl⟩ : ∃ (R : Fin 1000000) (L : Fin 64), j = ix2 R L := ⟨j 0, j 1, eq_ix2 j⟩
  by_cases e : R.val < 16384
  · rw [table_new _ _ _ hn R L e, newTable_new _ _ _ _ _ _ _ _ _ _ R L e, cell_apply]
    unfold newRow
    refine rowCell_congr (fun g => ?_) (fun g => ?_) (fun l => taken_apply h _ _ l (hn _)) L
    · rw [gatesI_apply]
      exact rowGates_congr (fun q => inputs_apply x k p w b _ q (hp _)) (fun _ _ => rfl) (fun _ => rfl) g
    · rw [gatesH_apply]
      exact rowGates_congr (fun q => taken_apply h _ _ q (hn _)) (fun _ _ => rfl) (fun _ => rfl) g
  · rw [table_kept _ _ _ hn R L e, newTable_kept _ _ _ _ _ _ _ _ _ _ R L e]

/-- and its losses are the losses. -/
theorem losses_eq (hp : ∀ (r : Fin 16384) (d : Fin 32), (⊥ : EReal) < p (ix2 r ⟨32 + d.val, by omega⟩)) :
    mulf (broadcastInDim S16384x32 ![] bcast_S_S16384x32 (constant S_ .f32 0x3F000000#32))
      (mulf (addf (addf (mulf (errs x p) (errs x p)) (extractStridedSlice S16384x32 ![0, 32] p slices_S16384x64_S16384x32_0_32))
        (broadcastInDim S16384x32 ![] bcast_S_S16384x32 (constant S_ .f32 0x3FEB3F8E#32))) k)
      = losses x k p := by
  funext j
  obtain ⟨r, d, rfl⟩ : ∃ (r : Fin 16384) (d : Fin 32), j = ix2 r d := ⟨j 0, j 1, eq_ix2 j⟩
  pointwise []
  rw [errs_apply x p r d (hp r d)]
  rfl

end

end Cert.ObsUpdate.Ref

end
-- ==== Proof.Agree.lean ====
/-
The kernel and the reference agree: from equal arguments that satisfy the precondition, both end with the new table and
the losses.
-/
module

public import proofs.«01_k».proof.Defs
public import proofs.«01_k».proof.Proof.KernelValue
public import proofs.«01_k».proof.Proof.RefValue
public import proofs.«01_k».proof.Proof.Gen.Pre_rows_in_order_and_variance_nonzero

@[expose] public section

noncomputable section

namespace Cert.ObsUpdate

open Idealize.ShloMosaic Idealize.ShloMosaic.TcCoe Idealize.SL.Sem

/-! ## The precondition -/

/-- The precondition at one observation and feature: the row's number, and the log-variance above minus infinity. -/
theorem pre_apply (h : FVec Ideal ⟨2, ![1000000, 64]⟩ .f32) (p : FVec Ideal ⟨2, ![16384, 64]⟩ .f32)
    (x k : FVec Ideal ⟨2, ![16384, 32]⟩ .f32) (i : IVec ⟨1, ![16384]⟩ 32) (w : FVec Ideal ⟨3, ![32, 4, 10]⟩ .f32)
    (b : FVec Ideal ⟨2, ![32, 10]⟩ .f32) (wi : FVec Ideal ⟨2, ![192, 320]⟩ .f32) (wh : FVec Ideal ⟨2, ![192, 64]⟩ .f32)
    (bi bh : FVec Ideal ⟨1, ![192]⟩ .f32)
    (hpre : Cert.Pre_rows_in_order_and_variance_nonzero.fn (F := Ideal) h p x k i w b wi wh bi bh = fun _ => 1#1)
    (r : Fin 16384) (d : Fin 32) :
    i (ix1 r) = BitVec.ofNat 32 r.val ∧ (⊥ : EReal) < p (ix2 r ⟨32 + d.val, by omega⟩) := by
  have e := congrFun hpre (ix2 r d)
  unfold Cert.Pre_rows_in_order_and_variance_nonzero.fn at e
  pointwise at e
  have minusInf : Ideal.ofBits .f32 0xFF800000#32 = (⊥ : EReal) := by simp [Ideal.ofBits, Ideal.ieee]
  rw [minusInf] at e
  by_cases hi : i (ix1 r) = BitVec.ofNat 32 r.val
  · refine ⟨hi, ?_⟩
    by_contra hn
    rw [decide_eq_false hn] at e
    simp [IntOp.andi] at e
  · have hc : IntOp.cmpi .eq (i (ix1 r)) (BitVec.ofNat 32 r.val) = 0#1 := by
      simp [IntOp.cmpi, beq_eq_false_iff_ne.mpr hi]
    rw [hc] at e
    simp [IntOp.andi] at e

/-! ## The reference's first result -/

/-- Where the rows are in order and no log-variance is minus infinity, the reference's first result is the new table. -/
theorem reference_table (m : (ℓ : Loc Cert.ReferenceIdeal.nD Cert.ReferenceIdeal.τ Cert.ReferenceIdeal.sig) → Buf (Elt Ideal) ℓ)
    (c : Dev Cert.ReferenceIdeal.nD)
    (hpre : ∀ (r : Fin 16384) (d : Fin 32),
      (m (c.tc.loc Cert.ReferenceIdeal.main_arg4) : IVec ⟨1, ![16384]⟩ 32) (ix1 r) = BitVec.ofNat 32 r.val
      ∧ (⊥ : EReal) < (m (c.tc.loc Cert.ReferenceIdeal.main_arg1) : FVec Ideal ⟨2, ![16384, 64]⟩ .f32) (ix2 r ⟨32 + d.val, by omega⟩)) :
    Cert.ReferenceIdeal.Value.res_main_v76 m c
      = newTable (m (c.tc.loc Cert.ReferenceIdeal.main_arg0)) (m (c.tc.loc Cert.ReferenceIdeal.main_arg1))
          (m (c.tc.loc Cert.ReferenceIdeal.main_arg2)) (m (c.tc.loc Cert.ReferenceIdeal.main_arg3))
          (m (c.tc.loc Cert.ReferenceIdeal.main_arg5)) (m (c.tc.loc Cert.ReferenceIdeal.main_arg6))
          (m (c.tc.loc Cert.ReferenceIdeal.main_arg7)) (m (c.tc.loc Cert.ReferenceIdeal.main_arg8))
          (m (c.tc.loc Cert.ReferenceIdeal.main_arg9)) (m (c.tc.loc Cert.ReferenceIdeal.main_arg10)) :=
  (Ref.result_eq m c).trans (Ref.table_eq _ _ _ _ _ _ _ _ _ _ _ (fun r => (hpre r 0).1) (fun r d => (hpre r d).2))

/-! ## The claim -/

/-- The kernel and the reference end with equal results, their arguments unchanged. -/
theorem algebraic : @Cert.algebraic_KernelIdeal_ReferenceIdeal_pre_rows_in_order_and_variance_nonzero Cert.KernelIdeal.Gen.facts
    Cert.ReferenceIdeal.Gen.facts Cert.Pre_rows_in_order_and_variance_nonzero.Gen.facts := by
  intro m g m' g' hpre hargs
  have hp : ∀ (c : Dev Cert.KernelIdeal.nD) (r : Fin 16384) (d : Fin 32), _ := fun c r d =>
    pre_apply _ _ _ _ _ _ _ _ _ _ _ (hpre c) r d
  refine ⟨fun c => newTable (argH m c) (argP m c) (argX m c) (argK m c) (argWp m c) (argBp m c) (argWi m c) (argWh m c)
      (argBi m c) (argBh m c), fun c => losses (argX m c) (argK m c) (argP m c), ?_, ?_⟩
  · exact (θ_run Cert.KernelIdeal.defs _ _).mono (fun r h c => ⟨(h.1 c).1, (h.1 c).2, h.2.1 c⟩)
      (θ_run_and (run_values m g) (run_frame m g))
  · refine (θ_run Cert.ReferenceIdeal.defs _ _).mono (fun r h c => ⟨(h c).1.trans ?_, (h c).2.1.trans ?_, (h c).2.2⟩)
      (Cert.ReferenceIdeal.Value.run m' g')
    all_goals obtain ⟨e0, e1, e2, e3, e4, e5, e6, e7, e8, e9, e10⟩ := hargs c
    · refine (reference_table m' c fun r d => ?_).trans ?_
      · rw [e4, e1]; exact hp c r d
      · rw [e0, e1, e2, e3, e5, e6, e7, e8, e9, e10]
    · rw [e1, e2, e3]
      exact Ref.losses_eq _ _ _ fun r d => (hp c r d).2

end Cert.ObsUpdate

end
-- ==== Proof.lean ====
/-
The claims of this directory, put together from the modules that prove them.
-/
module

public import proofs.«01_k».proof.Defs
public import proofs.«01_k».proof.Proof.Same
public import proofs.«01_k».proof.Proof.Agree
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_rows_in_order_and_variance_nonzero
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference runs, changes no argument and leaves every counter at zero. -/
theorem quiescent_ReferenceIdeal : @Cert.quiescent_ReferenceIdeal Cert.ReferenceIdeal.Gen.facts := fun m ρ _ =>
  (θ_run Cert.ReferenceIdeal.defs _ _).mono
    (fun r h => ⟨fun c => (h c).2.2, sem_eq_zero_of_no_sems (by decide) r.2⟩)
    (Cert.ReferenceIdeal.Value.run m ρ)

/-- Every claim of this directory. Where a run is claimed under the precondition too, it is the run proved without it. -/
theorem claim : Cert.Claim :=
  ⟨Cert.Kernel.Gen.facts, Cert.KernelIdeal.Gen.facts, Cert.ReferenceIdeal.Gen.facts,
    Cert.Pre_rows_in_order_and_variance_nonzero.Gen.facts, Cert.ObsUpdate.quiescent_Kernel,
    Cert.ObsUpdate.quiescent_KernelIdeal, fun m ρ _ => Cert.ObsUpdate.quiescent_KernelIdeal m ρ trivial,
    quiescent_ReferenceIdeal, fun m ρ _ => quiescent_ReferenceIdeal m ρ trivial, trivial, Cert.ObsUpdate.algebraic⟩

end Cert.Proof

end
